-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x640x5120 : Shape := ⟨4, ![2, 16, 640, 5120]⟩
abbrev S2x16x640x160 : Shape := ⟨4, ![2, 16, 640, 160]⟩
abbrev S5120 : Shape := ⟨1, ![5120]⟩
abbrev S16x640x5120 : Shape := ⟨3, ![16, 640, 5120]⟩
abbrev S2x16x160x640 : Shape := ⟨4, ![2, 16, 160, 640]⟩
abbrev S32 : Shape := ⟨1, ![32]⟩
abbrev S32x1 : Shape := ⟨2, ![32, 1]⟩
abbrev S1024 : Shape := ⟨1, ![1024]⟩
abbrev S1x1024 : Shape := ⟨2, ![1, 1024]⟩
abbrev S_ : Shape := ⟨0, ![]⟩
abbrev S32x1024 : Shape := ⟨2, ![32, 1024]⟩
abbrev S1x5120 : Shape := ⟨2, ![1, 5120]⟩
abbrev S16x160x640 : Shape := ⟨3, ![16, 160, 640]⟩
abbrev S2x1x128x5120 : Shape := ⟨4, ![2, 1, 128, 5120]⟩
abbrev S2x1x160x128 : Shape := ⟨4, ![2, 1, 160, 128]⟩
abbrev S1x128x5120 : Shape := ⟨3, ![1, 128, 5120]⟩
abbrev S1x160x128 : Shape := ⟨3, ![1, 160, 128]⟩
abbrev S2x5x128x32 : Shape := ⟨4, ![2, 5, 128, 32]⟩
abbrev S128x1024 : Shape := ⟨2, ![128, 1024]⟩
abbrev S1x1x32x128 : Shape := ⟨4, ![1, 1, 32, 128]⟩
abbrev S32x128 : Shape := ⟨2, ![32, 128]⟩
abbrev S128x32 : Shape := ⟨2, ![128, 32]⟩
abbrev S1x1x128x32 : Shape := ⟨4, ![1, 1, 128, 32]⟩
abbrev S128x256 : Shape := ⟨2, ![128, 256]⟩
abbrev S32x256 : Shape := ⟨2, ![32, 256]⟩
abbrev S1x1x128x256 : Shape := ⟨4, ![1, 1, 128, 256]⟩
abbrev S1x256 : Shape := ⟨2, ![1, 256]⟩
abbrev S1x128x256 : Shape := ⟨3, ![1, 128, 256]⟩
abbrev S128 : Shape := ⟨1, ![128]⟩
abbrev S128x1 : Shape := ⟨2, ![128, 1]⟩
abbrev S128x128 : Shape := ⟨2, ![128, 128]⟩
abbrev S4x32x128 : Shape := ⟨3, ![4, 32, 128]⟩
abbrev S4x128 : Shape := ⟨2, ![4, 128]⟩
abbrev S1x4x128 : Shape := ⟨3, ![1, 4, 128]⟩
abbrev S1x32x128 : Shape := ⟨3, ![1, 32, 128]⟩
abbrev S16x640x160 : Shape := ⟨3, ![16, 640, 160]⟩

abbrev nBuf : Space → Nat
  | .hbm => 38
  | .vmem => 17
  | .smem => 0
  | _ => 0

abbrev bufTy : (tb : Table) → Fin (tcTables nBuf tb) → BufTy
  | .hbm, ⟨0, _⟩ => ⟨S2x16x640x5120, .fp8e4m3⟩
  | .hbm, ⟨1, _⟩ => ⟨S2x16x640x160, .f32⟩
  | .hbm, ⟨2, _⟩ => ⟨S5120, .f32⟩
  | .hbm, ⟨3, _⟩ => ⟨S16x640x5120, .bf16⟩
  | .hbm, ⟨4, _⟩ => ⟨S5120, .f32⟩
  | .hbm, ⟨5, _⟩ => ⟨S2x16x160x640, .f32⟩
  | .hbm, ⟨6, _⟩ => ⟨S32, .i32⟩
  | .hbm, ⟨7, _⟩ => ⟨S32x1, .i32⟩
  | .hbm, ⟨8, _⟩ => ⟨S1024, .i32⟩
  | .hbm, ⟨9, _⟩ => ⟨S1x1024, .i32⟩
  | .hbm, ⟨10, _⟩ => ⟨S_, .i32⟩
  | .hbm, ⟨11, _⟩ => ⟨S_, .i32⟩
  | .hbm, ⟨12, _⟩ => ⟨S1x1024, .i32⟩
  | .hbm, ⟨13, _⟩ => ⟨S1x1024, .i32⟩
  | .hbm, ⟨14, _⟩ => ⟨S1x1024, .i32⟩
  | .hbm, ⟨15, _⟩ => ⟨S_, .i32⟩
  | .hbm, ⟨16, _⟩ => ⟨S1x1024, .i32⟩
  | .hbm, ⟨17, _⟩ => ⟨S1x1024, .i1⟩
  | .hbm, ⟨18, _⟩ => ⟨S1x1024, .i32⟩
  | .hbm, ⟨19, _⟩ => ⟨S1x1024, .i32⟩
  | .hbm, ⟨20, _⟩ => ⟨S_, .i32⟩
  | .hbm, ⟨21, _⟩ => ⟨S1x1024, .i32⟩
  | .hbm, ⟨22, _⟩ => ⟨S1x1024, .i1⟩
  | .hbm, ⟨23, _⟩ => ⟨S1x1024, .i1⟩
  | .hbm, ⟨24, _⟩ => ⟨S_, .i32⟩
  | .hbm, ⟨25, _⟩ => ⟨S1x1024, .i32⟩
  | .hbm, ⟨26, _⟩ => ⟨S1x1024, .i32⟩
  | .hbm, ⟨27, _⟩ => ⟨S1x1024, .i32⟩
  | .hbm, ⟨28, _⟩ => ⟨S32x1024, .i32⟩
  | .hbm, ⟨29, _⟩ => ⟨S32x1024, .i32⟩
  | .hbm, ⟨30, _⟩ => ⟨S32x1024, .i1⟩
  | .hbm, ⟨31, _⟩ => ⟨S32x1024, .bf16⟩
  | .hbm, ⟨32, _⟩ => ⟨S1x5120, .f32⟩
  | .hbm, ⟨33, _⟩ => ⟨S1x5120, .f32⟩
  | .hbm, ⟨34, _⟩ => ⟨S16x640x5120, .bf16⟩
  | .hbm, ⟨35, _⟩ => ⟨S16x640x5120, .fp8e4m3⟩
  | .hbm, ⟨36, _⟩ => ⟨S16x160x640, .f32⟩
  | .hbm, ⟨37, _⟩ => ⟨S16x640x160, .f32⟩
  | .local _ .vmem, ⟨0, _⟩ => ⟨S2x1x128x5120, .fp8e4m3⟩
  | .local _ .vmem, ⟨1, _⟩ => ⟨S2x1x128x5120, .fp8e4m3⟩
  | .local _ .vmem, ⟨2, _⟩ => ⟨S2x1x160x128, .f32⟩
  | .local _ .vmem, ⟨3, _⟩ => ⟨S2x1x160x128, .f32⟩
  | .local _ .vmem, ⟨4, _⟩ => ⟨S1x5120, .f32⟩
  | .local _ .vmem, ⟨5, _⟩ => ⟨S1x128x5120, .bf16⟩
  | .local _ .vmem, ⟨6, _⟩ => ⟨S1x128x5120, .bf16⟩
  | .local _ .vmem, ⟨7, _⟩ => ⟨S1x5120, .f32⟩
  | .local _ .vmem, ⟨8, _⟩ => ⟨S32x1024, .bf16⟩
  | .local _ .vmem, ⟨9, _⟩ => ⟨S1x128x5120, .bf16⟩
  | .local _ .vmem, ⟨10, _⟩ => ⟨S1x128x5120, .bf16⟩
  | .local _ .vmem, ⟨11, _⟩ => ⟨S1x128x5120, .fp8e4m3⟩
  | .local _ .vmem, ⟨12, _⟩ => ⟨S1x128x5120, .fp8e4m3⟩
  | .local _ .vmem, ⟨13, _⟩ => ⟨S1x160x128, .f32⟩
  | .local _ .vmem, ⟨14, _⟩ => ⟨S1x160x128, .f32⟩
  | .local _ .vmem, ⟨15, _⟩ => ⟨S2x5x128x32, .bf16⟩
  | .local _ .vmem, ⟨16, _⟩ => ⟨S128x1024, .f32⟩
  | _, _ => ⟨S2x16x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12_0 : Ref sig .tc := ⟨.hbm, 34, rfl⟩
abbrev main_v12_1 : Ref sig .tc := ⟨.hbm, 35, rfl⟩
abbrev main_v12_2 : Ref sig .tc := ⟨.hbm, 36, rfl⟩
abbrev main_v13 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 5], ![false, false]⟩

@[reducible] def k0_t1_loop : Scf.Loop 32 :=
  let c0_i32 : BitVec 32 := 0#32
  let c5_i32 : BitVec 32 := 5#32
  let v71 : BitVec 32 := Scalar.addi c0_i32 c5_i32
  let c1_i32 : BitVec 32 := 1#32
  ⟨c0_i32, v71, c1_i32⟩
def k0_off1 (k0_t1 : Fin k0_t1_loop.trips) : Fin 4 → Nat :=
  let c0_81 : Index := 0#32
  let c0_i32 : BitVec 32 := 0#32
  let c1_i32 : BitVec 32 := 1#32
  let arg13 : BitVec 32 := Scf.iv c0_i32 c1_i32 k0_t1
  let v83 : Index := Scalar.indexCast arg13
  let c0_82 : Index := 0#32
  let c0_83 : Index := 0#32
  ![0, v83.toNat, 0, 0]
def k0_off2 (k0_t1 : Fin k0_t1_loop.trips) : Fin 4 → Nat :=
  let c1_85 : Index := 1#32
  let c0_i32 : BitVec 32 := 0#32
  let c1_i32 : BitVec 32 := 1#32
  let arg13 : BitVec 32 := Scf.iv c0_i32 c1_i32 k0_t1
  let v87 : Index := Scalar.indexCast arg13
  let c0_86 : Index := 0#32
  let c0_87 : Index := 0#32
  ![1, v87.toNat, 0, 0]
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32 : BitVec 32 := 1024#32
  let v91 : BitVec 32 := Scalar.muli arg13 c1024_i32
  v91
def k0_off3 (k0_t1 : Fin k0_t1_loop.trips) (c0_i32_89 : BitVec 32) : Fin 4 → Nat :=
  let c0_90 : Index := 0#32
  let c0_91 : Index := 0#32
  let c0_92 : Index := 0#32
  let c0_i32 : BitVec 32 := 0#32
  let c1_i32 : BitVec 32 := 1#32
  let arg13 : BitVec 32 := Scf.iv c0_i32 c1_i32 k0_t1
  let c1024_i32 : BitVec 32 := 1024#32
  let v91 : BitVec 32 := Scalar.muli arg13 c1024_i32
  let v92 : BitVec 32 := v91
  let v93 : BitVec 32 := Scalar.addi v92 c0_i32_89
  let v94 : Index := Scalar.indexCast v93
  ![0, 0, 0, v94.toNat]
def k0_off4 (k0_t1 : Fin k0_t1_loop.trips) (c0_i32_89 : BitVec 32) : Fin 4 → Nat :=
  let c1_93 : Index := 1#32
  let c0_94 : Index := 0#32
  let c0_95 : Index := 0#32
  let c0_i32 : BitVec 32 := 0#32
  let c1_i32 : BitVec 32 := 1#32
  let arg13 : BitVec 32 := Scf.iv c0_i32 c1_i32 k0_t1
  let c1024_i32 : BitVec 32 := 1024#32
  let v91 : BitVec 32 := Scalar.muli arg13 c1024_i32
  let v92 : BitVec 32 := v91
  let v93 : BitVec 32 := Scalar.addi v92 c0_i32_89
  let v99 : Index := Scalar.indexCast v93
  ![1, 0, 0, v99.toNat]
def k0_off5 (k0_t1 : Fin k0_t1_loop.trips) (c0_i32_89 : BitVec 32) : Fin 2 → Nat :=
  let c0_96 : Index := 0#32
  let c0_i32 : BitVec 32 := 0#32
  let c1_i32 : BitVec 32 := 1#32
  let arg13 : BitVec 32 := Scf.iv c0_i32 c1_i32 k0_t1
  let c1024_i32 : BitVec 32 := 1024#32
  let v91 : BitVec 32 := Scalar.muli arg13 c1024_i32
  let v92 : BitVec 32 := v91
  let v93 : BitVec 32 := Scalar.addi v92 c0_i32_89
  let v105 : Index := Scalar.indexCast v93
  ![0, v105.toNat]
def k0_off6 (k0_t1 : Fin k0_t1_loop.trips) (c0_i32_89 : BitVec 32) : Fin 3 → Nat :=
  let c0_97 : Index := 0#32
  let c0_98 : Index := 0#32
  let c0_i32 : BitVec 32 := 0#32
  let c1_i32 : BitVec 32 := 1#32
  let arg13 : BitVec 32 := Scf.iv c0_i32 c1_i32 k0_t1
  let c1024_i32 : BitVec 32 := 1024#32
  let v91 : BitVec 32 := Scalar.muli arg13 c1024_i32
  let v92 : BitVec 32 := v91
  let v93 : BitVec 32 := Scalar.addi v92 c0_i32_89
  let v110 : Index := Scalar.indexCast v93
  ![0, 0, v110.toNat]
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32_110 : BitVec 32 := 1024#32
  let v133 : BitVec 32 := Scalar.muli arg13 c1024_i32_110
  v133
def k0_mult3 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32_131 : BitVec 32 := 1024#32
  let v175 : BitVec 32 := Scalar.muli arg13 c1024_i32_131
  v175
def k0_mult4 (k0_t1 : Fin k0_t1_loop.trips) : BitVec 32 :=
  let c0_i32 : BitVec 32 := 0#32
  let c1_i32 : BitVec 32 := 1#32
  let arg13 : BitVec 32 := Scf.iv c0_i32 c1_i32 k0_t1
  let c1024_i32_152 : BitVec 32 := 1024#32
  let v217 : BitVec 32 := Scalar.muli arg13 c1024_i32_152
  v217
@[reducible] def k0_t2_loop : Scf.Loop 32 :=
  let c0_i32_75 : BitVec 32 := 0#32
  let c5_i32_76 : BitVec 32 := 5#32
  let v80 : BitVec 32 := Scalar.addi c0_i32_75 c5_i32_76
  let c1_i32_77 : BitVec 32 := 1#32
  ⟨c0_i32_75, v80, c1_i32_77⟩
def k0_mult5 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32 : BitVec 32 := 1024#32
  let v81 : BitVec 32 := Scalar.muli arg13 c1024_i32
  v81
def k0_off7 (k0_t2 : Fin k0_t2_loop.trips) (c0_i32_79 : BitVec 32) : Fin 3 → Nat :=
  let c0_80 : Index := 0#32
  let c0_81 : Index := 0#32
  let c0_i32_75 : BitVec 32 := 0#32
  let c1_i32_77 : BitVec 32 := 1#32
  let arg13 : BitVec 32 := Scf.iv c0_i32_75 c1_i32_77 k0_t2
  let c1024_i32 : BitVec 32 := 1024#32
  let v81 : BitVec 32 := Scalar.muli arg13 c1024_i32
  let v82 : BitVec 32 := v81
  let v83 : BitVec 32 := Scalar.addi v82 c0_i32_79
  let v84 : Index := Scalar.indexCast v83
  ![0, 0, v84.toNat]
def k0_off8 (k0_t2 : Fin k0_t2_loop.trips) (c0_i32_79 : BitVec 32) : Fin 2 → Nat :=
  let c0_82 : Index := 0#32
  let c0_i32_75 : BitVec 32 := 0#32
  let c1_i32_77 : BitVec 32 := 1#32
  let arg13 : BitVec 32 := Scf.iv c0_i32_75 c1_i32_77 k0_t2
  let c1024_i32 : BitVec 32 := 1024#32
  let v81 : BitVec 32 := Scalar.muli arg13 c1024_i32
  let v82 : BitVec 32 := v81
  let v83 : BitVec 32 := Scalar.addi v82 c0_i32_79
  let v90 : Index := Scalar.indexCast v83
  ![0, v90.toNat]
def k0_mult6 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32 : BitVec 32 := 32#32
  let v107 : BitVec 32 := Scalar.muli arg13 c32_i32
  v107
def k0_off9 (k0_t2 : Fin k0_t2_loop.trips) (c0_i32_87 : BitVec 32) (c0_i32_88 : BitVec 32) : Fin 3 → Nat :=
  let c0_89 : Index := 0#32
  let c0_i32_75 : BitVec 32 := 0#32
  let c1_i32_77 : BitVec 32 := 1#32
  let arg13 : BitVec 32 := Scf.iv c0_i32_75 c1_i32_77 k0_t2
  let c32_i32 : BitVec 32 := 32#32
  let v107 : BitVec 32 := Scalar.muli arg13 c32_i32
  let v108 : BitVec 32 := v107
  let v109 : BitVec 32 := Scalar.addi v108 c0_i32_87
  let v110 : BitVec 32 := Scalar.addi v109 c0_i32_88
  let v111 : Index := Scalar.indexCast v110
  let c0_90 : Index := 0#32
  ![0, v111.toNat, 0]
def k0_mult7 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_92 : BitVec 32 := 32#32
  let v120 : BitVec 32 := Scalar.muli arg13 c32_i32_92
  v120
def k0_mult8 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_96 : BitVec 32 := 1024#32
  let v128 : BitVec 32 := Scalar.muli arg13 c1024_i32_96
  v128
def k0_mult9 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_103 : BitVec 32 := 32#32
  let v154 : BitVec 32 := Scalar.muli arg13 c32_i32_103
  v154
def k0_mult10 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_108 : BitVec 32 := 32#32
  let v167 : BitVec 32 := Scalar.muli arg13 c32_i32_108
  v167
def k0_mult11 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_113 : BitVec 32 := 1024#32
  let v175 : BitVec 32 := Scalar.muli arg13 c1024_i32_113
  v175
def k0_mult12 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_120 : BitVec 32 := 32#32
  let v201 : BitVec 32 := Scalar.muli arg13 c32_i32_120
  v201
def k0_mult13 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_125 : BitVec 32 := 32#32
  let v214 : BitVec 32 := Scalar.muli arg13 c32_i32_125
  v214
def k0_mult14 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_130 : BitVec 32 := 1024#32
  let v222 : BitVec 32 := Scalar.muli arg13 c1024_i32_130
  v222
def k0_mult15 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_137 : BitVec 32 := 32#32
  let v248 : BitVec 32 := Scalar.muli arg13 c32_i32_137
  v248
def k0_mult16 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_142 : BitVec 32 := 32#32
  let v261 : BitVec 32 := Scalar.muli arg13 c32_i32_142
  v261
def k0_mult17 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32_147 : BitVec 32 := 32#32
  let v269 : BitVec 32 := Scalar.muli arg13 c32_i32_147
  v269
def k0_off10 (k0_t2 : Fin k0_t2_loop.trips) : Fin 3 → Nat :=
  let c0_148 : Index := 0#32
  let c0_i32_75 : BitVec 32 := 0#32
  let c1_i32_77 : BitVec 32 := 1#32
  let arg13 : BitVec 32 := Scf.iv c0_i32_75 c1_i32_77 k0_t2
  let c32_i32_147 : BitVec 32 := 32#32
  let v269 : BitVec 32 := Scalar.muli arg13 c32_i32_147
  let v270 : BitVec 32 := v269
  let v271 : Index := Scalar.indexCast v270
  let c0_149 : Index := 0#32
  ![0, v271.toNat, 0]
def k0_mult18 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_179 : BitVec 32 := 1024#32
  let v371 : BitVec 32 := Scalar.muli arg13 c1024_i32_179
  v371
def k0_mult19 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_190 : BitVec 32 := 1024#32
  let v388 : BitVec 32 := Scalar.muli arg13 c1024_i32_190
  v388
def k0_mult20 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_201 : BitVec 32 := 1024#32
  let v405 : BitVec 32 := Scalar.muli arg13 c1024_i32_201
  v405
def k0_mult21 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c1024_i32_212 : BitVec 32 := 1024#32
  let v422 : BitVec 32 := Scalar.muli arg13 c1024_i32_212
  v422
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2x1x128x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x160x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x5120 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x160x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S2x16x640x5120 : Shape := ⟨4, ![2, 16, 640, 5120]⟩
abbrev S2x16x640x160 : Shape := ⟨4, ![2, 16, 640, 160]⟩
abbrev S5120 : Shape := ⟨1, ![5120]⟩
abbrev S16x640x5120 : Shape := ⟨3, ![16, 640, 5120]⟩
abbrev S16x640x160 : Shape := ⟨3, ![16, 640, 160]⟩
abbrev S2x16x640x160x32 : Shape := ⟨5, ![2, 16, 640, 160, 32]⟩
abbrev S2x16x640x160x1 : Shape := ⟨5, ![2, 16, 640, 160, 1]⟩
abbrev S16x640x160x32 : Shape := ⟨4, ![16, 640, 160, 32]⟩
abbrev S1x1x5120 : Shape := ⟨3, ![1, 1, 5120]⟩
abbrev S16x640 : Shape := ⟨2, ![16, 640]⟩
abbrev S16x640x1 : Shape := ⟨3, ![16, 640, 1]⟩
abbrev S16x640x160x1 : Shape := ⟨4, ![16, 640, 160, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x16x640x5120, .fp8e4m3⟩
  | .hbm, ⟨1, _⟩ => ⟨S2x16x640x160, .f32⟩
  | .hbm, ⟨2, _⟩ => ⟨S5120, .f32⟩
  | .hbm, ⟨3, _⟩ => ⟨S16x640x5120, .bf16⟩
  | .hbm, ⟨4, _⟩ => ⟨S5120, .f32⟩
  | .hbm, ⟨5, _⟩ => ⟨S16x640x5120, .bf16⟩
  | .hbm, ⟨6, _⟩ => ⟨S16x640x5120, .fp8e4m3⟩
  | .hbm, ⟨7, _⟩ => ⟨S16x640x160, .f32⟩
  | .local _ .vmem, ⟨0, _⟩ => ⟨S2x16x640x5120, .fp8e4m3⟩
  | .local _ .vmem, ⟨1, _⟩ => ⟨S2x16x640x160, .f32⟩
  | .local _ .vmem, ⟨2, _⟩ => ⟨S5120, .f32⟩
  | .local _ .vmem, ⟨3, _⟩ => ⟨S16x640x5120, .bf16⟩
  | .local _ .vmem, ⟨4, _⟩ => ⟨S5120, .f32⟩
  | .local _ .vmem, ⟨5, _⟩ => ⟨S16x640x5120, .bf16⟩
  | .local _ .vmem, ⟨6, _⟩ => ⟨S16x640x5120, .fp8e4m3⟩
  | .local _ .vmem, ⟨7, _⟩ => ⟨S16x640x160, .f32⟩
  | _, _ => ⟨S2x16x640x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x16x640x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x640x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x640x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x640x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x640x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x640x160 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
/-
  THE FRAME OF THE KERNEL PROGRAM, OVER THE MACHINE'S FLOATS.

  Nothing is said of what the kernel computes: at every grid point its body runs from its blocks to its end and leaves
  the six inputs as they were; so the program terminates, leaves its arguments unchanged and every counter at zero.
-/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import Idealize.ShloMosaic.Lib.Claim

@[expose] public section

set_option maxRecDepth 16384

noncomputable section

namespace Cert.Kernel.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host line after the region -/

/-- The buffers the host line after the region writes, of which nothing is said. -/
def T0 : Finset (Ref sig .tc) := {main_v13}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- A run that leaves the input arrays and the buffers outside `T0` as the region found them leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePostR.arr_in h c 0 rfl).trans ((hA c 0).trans (V_main_arg0 m c)),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      ((h c).2 main_arg4 (Finset.mem_sdiff.mpr ⟨Pipeline.mem_restRefs_of main_arg4 (by decide) (by decide), by decide⟩)).trans (V_main_arg4 m c)⟩) h

/-! ## The body -/

/-- Each window's current staging memref at point `t`, spelled as the pipeline passes it (`bodyAt0`), and its wholeness. -/
abbrev ms0_0 (t : Fin cfg0.N) : Memref sig .tc .vmem S2x1x128x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x160x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x5120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x160x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x5x128x32 .bf16 := Memref.whole cc0_scratch0
abbrev scM0_1 : Memref sig .tc .vmem S128x1024 .f32 := Memref.whole cc0_scratch1

/-- What the body is handed beside the windows: its two scratch buffers and the generator register, at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

set_option maxHeartbeats 1000000 in
/-- The body, on whole memrefs holding the six input blocks and outputs and scratch at anything, ends with the inputs as they were
    and the outputs and scratch at some contents. -/
theorem body_run (c : Dev nD) (i : grid0.Coords) (arg2 : Memref sig .tc .vmem S2x1x128x5120 .fp8e4m3) (harg2 : arg2.IsWhole) (arg3 : Memref sig .tc .vmem S2x1x160x128 .f32) (harg3 : arg3.IsWhole) (arg4 : Memref sig .tc .vmem S1x5120 .f32) (harg4 : arg4.IsWhole) (arg5 : Memref sig .tc .vmem S1x128x5120 .bf16) (harg5 : arg5.IsWhole) (arg6 : Memref sig .tc .vmem S1x5120 .f32) (harg6 : arg6.IsWhole) (arg7 : Memref sig .tc .vmem S32x1024 .bf16) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x160x128 .f32) (harg10 : arg10.IsWhole) (arg11 : Memref sig .tc .vmem S2x5x128x32 .bf16) (harg11 : arg11.IsWhole) (arg12 : Memref sig .tc .vmem S128x1024 .f32) (harg12 : arg12.IsWhole)
    (x0 : Vec F S2x1x128x5120 .fp8e4m3) (x1 : Vec F S2x1x160x128 .f32) (x2 : Vec F S1x5120 .f32) (x3 : Vec F S1x128x5120 .bf16) (x4 : Vec F S1x5120 .f32) (x5 : Vec F S32x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12) K := by
    intro E K
    simp only [cc0_body_eq_skeleton]; unfold cc0_body_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [HS0]
    · iexists _, _; isplitr; swap; · iexact HS0
      ipureintro; rfl
    iexists _, _; isplitr; swap; · iexact HS1
    ipureintro; rfl

/-! ## The pipeline's proof data -/

/-- The output windows, of which nothing is said. -/
def forgets0 : Fin 9 → Bool := fun w => w.val == 6 || w.val == 7 || w.val == 8

/-- The proof data of the one pipeline on core `c`: the arrays as the region finds them; after the body each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 800000 in
/-- The body at any point, by its run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((body_run c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: the program terminates, the input arrays and the buffers outside `T0` as the region found them, the counters at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Val

end
-- ==== Proof.Loop1.lean ====
/-
  THE FIRST LOOP OF THE KERNEL BODY, OVER THE EXTENDED REALS.

  Trip `k` of the loop handles the columns `1024 k … 1024 k + 1023` of the block of 128 rows, in four pieces of 256
  columns. Every piece stores the new residual of its columns and adds the squares of what it stored to a carried
  128 × 256 page. This module states the value of one residual element (`resid`), shows that every piece of every trip
  stores exactly that, and that the carried page after the five trips is the sum of the squares.
-/
module

public import proofs.«01_k».proof.Proof.Gen.KernelIdeal.Loops
public import Idealize.ShloMosaic.Lib.Pointwise
public import Idealize.ShloMosaic.Lib.Pipeline.ValueKit

@[expose] public section

set_option maxRecDepth 65536
set_option maxHeartbeats 1000000

noncomputable section

namespace Cert.KernelIdeal.Val

open Idealize.ShloMosaic Idealize.ShloMosaic.TcCoe Idealize.ShloMosaic.Tactic
open Idealize.SL Idealize.SL.Sem
open Cert.KernelIdeal Cert.KernelIdeal.Gen

/-- An element of a load through a unit-stride rectangle is the element of the memref at the offset plus the index. -/
theorem readAt_unit {s : Shape} {e : EltTy} {κ : Kind} {sp : Space} (a : Memref sig κ sp s e)
    (off off' : Fin s.rank → Nat) (ho : off = off') (sz : Fin s.rank → Nat) (inb) (X : BufTy.Contents (Elt Ideal) a.view.ty)
    (x : (Rect.unit (s := s) off sz inb).shape.Idx) (y : s.Idx) (h : ∀ d, (y d).val = off' d + (x d).val) :
    View.readAt (Elt Ideal) a.view (Rect.unit (s := s) off sz inb).toLoadRect X x = a.view.read (Elt Ideal) X y := by
  subst ho
  rw [View.readAt_apply]
  congr 1
  funext d
  apply Fin.ext
  rw [h d]
  simp [Rect.toLoadRect, LoadRect.idx, Rect.unit]

/-- A store of 128 rows by 256 columns that holds `G` at its place agrees with `G` under its rectangle. -/
theorem store_piece {e : EltTy} (off off' : Fin 3 → Nat) (ho : off = off') (inb) (P : S1x128x256.Idx → Elt Ideal e)
    (G : S1x128x5120.Idx → Elt Ideal e) (c0 : Nat) (hc : off' = ![0, 0, c0])
    (h : ∀ (p : Fin 128) (l : Fin 256) (h : c0 + l.val < 5120), P (ix3 0 p l) = G (ix3 0 p ⟨c0 + l.val, h⟩)) :
    ∀ x : (Rect.unit (s := S1x128x5120) off S1x128x256.size inb).shape.Idx,
      P x = G ((Rect.unit (s := S1x128x5120) off S1x128x256.size inb).emb x) := by
  subst ho; subst hc
  intro x
  have hb := inb 2
  have hx2 := (x 2).isLt
  have hlt : c0 + (x 2).val < 5120 := by
    have e1 : S1x128x256.size 2 = 256 := rfl
    have e2 : S1x128x5120.size 2 = 5120 := rfl
    have e3 : (![0, 0, c0] : Fin 3 → Nat) 2 = c0 := rfl
    rw [e1, e2, e3] at hb
    have : (x 2).val < 256 := hx2
    omega
  have hx : x = ix3 (0 : Fin 1) (x 1) (x 2) := by
    funext d; fin_cases d
    · exact Subsingleton.elim (α := Fin 1) _ _
    · rfl
    · rfl
  have he : (Rect.unit (s := S1x128x5120) ![0, 0, c0] S1x128x256.size inb).emb x = ix3 0 (x 1) ⟨c0 + (x 2).val, hlt⟩ := by
    funext d; apply Fin.ext
    rw [ValueKit.rect_emb_unit_val]
    fin_cases d
    · have := (x 0).isLt; have h1 : (x 0).val < 1 := this; simp [ix3]
    · simp [ix3]
    · simp [ix3]
  rw [he]
  exact (congrArg P hx).trans (h (x 1) (x 2) hlt)

/-- Membership in such a rectangle: the column is among the 256 from the rectangle's first. -/
theorem mem_piece (off off' : Fin 3 → Nat) (ho : off = off') (inb) (c0 : Nat) (hc : off' = ![0, 0, c0])
    (y : S1x128x5120.Idx) (h : c0 ≤ (y 2).val ∧ (y 2).val < c0 + 256) :
    y ∈ (Rect.unit (s := S1x128x5120) off S1x128x256.size inb).set := by
  subst ho; subst hc
  rw [Rect.mem_set_unit]
  intro d
  have h0 : (y 0).val < 1 := (y 0).isLt
  have h1 : (y 1).val < 128 := (y 1).isLt
  fin_cases d
  · exact ⟨Nat.zero_le _, by simpa using h0⟩
  · exact ⟨Nat.zero_le _, by simpa using h1⟩
  · exact h

theorem trips1_le (k : Fin k0_t1_loop.trips) : k.val < 5 := Nat.lt_of_lt_of_le k.isLt k0_t1_abs.2.1

/-- A trip of the first loop as a number below five. -/
def trip1 (k : Fin k0_t1_loop.trips) : Fin 5 := ⟨k.val, trips1_le k⟩

/-- The factor of shard `d` at row `p` and column `q`: the row's group factors times the column's row of the
    expansion matrix. -/
def factor (st : S2x5x128x32.Idx → EReal) (ex : S32x1024.Idx → EReal) (d : Fin 2) (p : Fin 128) (q : Fin 5120) : EReal :=
  ∑ g : Fin 32, st (ix4 d ⟨q.val / 1024, by omega⟩ p g) * ex (ix2 g ⟨q.val % 1024, by omega⟩)

/-- One element of the new residual: the two shards' products added, then the bias, then the old residual. -/
def resid (pk : S2x1x128x5120.Idx → EReal) (st : S2x5x128x32.Idx → EReal) (bi : S1x5120.Idx → EReal)
    (xo : S1x128x5120.Idx → EReal) (ex : S32x1024.Idx → EReal) (p : Fin 128) (q : Fin 5120) : EReal :=
  pk (ix4 0 0 p q) * factor st ex 0 p q + pk (ix4 1 0 p q) * factor st ex 1 p q + bi (ix2 0 q) + xo (ix3 0 p q)

/-- The column of lane `l` of piece `s` of trip `k`. -/
def col (k : Fin 5) (s : Fin 4) (l : Fin 256) : Fin 5120 := ⟨1024 * k.val + 256 * s.val + l.val, by omega⟩

section Reads

variable (k : Fin k0_t1_loop.trips)

theorem rd3_0 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off3 k 0#32) ![1, 1, 128, 256] inb).toLoadRect X (ix4 0 0 p l)
      = arg2.view.read (Elt Ideal) X (ix4 0 0 p (col (trip1 k) 0 l)) := by
  refine readAt_unit _ _ _ (k0_off3_eq k 0) _ _ _ _ _ fun d => ?_
  fin_cases d <;> simp [ix1, ix2, ix3, ix4, col, trip1] <;> omega

theorem rd3_1 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off3 k 256#32) ![1, 1, 128, 256] inb).toLoadRect X (ix4 0 0 p l)
      = arg2.view.read (Elt Ideal) X (ix4 0 0 p (col (trip1 k) 1 l)) := by
  refine readAt_unit _ _ _ (k0_off3_eq k 1) _ _ _ _ _ fun d => ?_
  fin_cases d <;> simp [ix1, ix2, ix3, ix4, col, trip1] <;> omega

theorem rd3_2 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off3 k 512#32) ![1, 1, 128, 256] inb).toLoadRect X (ix4 0 0 p l)
      = arg2.view.read (Elt Ideal) X (ix4 0 0 p (col (trip1 k) 2 l)) := by
  refine readAt_unit _ _ _ (k0_off3_eq k 2) _ _ _ _ _ fun d => ?_
  fin_cases d <;> simp [ix1, ix2, ix3, ix4, col, trip1] <;> omega

theorem rd3_3 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off3 k 768#32) ![1, 1, 128, 256] inb).toLoadRect X (ix4 0 0 p l)
      = arg2.view.read (Elt Ideal) X (ix4 0 0 p (col (trip1 k) 3 l)) := by
  refine readAt_unit _ _ _ (k0_off3_eq k 3) _ _ _ _ _ fun d => ?_
  fin_cases d <;> simp [ix1, ix2, ix3, ix4, col, trip1] <;> omega

theorem rd4_0 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off4 k 0#32) ![1, 1, 128, 256] inb).toLoadRect X (ix4 0 0 p l)
      = arg2.view.read (Elt Ideal) X (ix4 1 0 p (col (trip1 k) 0 l)) := by
  refine readAt_unit _ _ _ (k0_off4_eq k 0) _ _ _ _ _ fun d => ?_
  fin_cases d <;> simp [ix1, ix2, ix3, ix4, col, trip1] <;> omega

theorem rd4_1 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off4 k 256#32) ![1, 1, 128, 256] inb).toLoadRect X (ix4 0 0 p l)
      = arg2.view.read (Elt Ideal) X (ix4 1 0 p (col (trip1 k) 1 l)) := by
  refine readAt_unit _ _ _ (k0_off4_eq k 1) _ _ _ _ _ fun d => ?_
  fin_cases d <;> simp [ix1, ix2, ix3, ix4, col, trip1] <;> omega

theorem rd4_2 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off4 k 512#32) ![1, 1, 128, 256] inb).toLoadRect X (ix4 0 0 p l)
      = arg2.view.read (Elt Ideal) X (ix4 1 0 p (col (trip1 k) 2 l)) := by
  refine readAt_unit _ _ _ (k0_off4_eq k 2) _ _ _ _ _ fun d => ?_
  fin_cases d <;> simp [ix1, ix2, ix3, ix4, col, trip1] <;> omega

theorem rd4_3 (arg2 : Memref sig .tc .vmem S2x1x128x5120 .fp8e4m3) (X : BufTy.Contents (Elt Ideal) arg2.view.ty) (inb) (p : Fin 128) (l : Fin 256) :
    View.readAt (Elt Ideal) arg2.view (Rect.unit (s := S2x1x128x5120) (k0_off4 k 768#32) ![1, 1, 128, 256] inb).toLoadRect X (ix4 0 0 p l)
      = arg2.view.read (Elt Ideal) X (ix4 1 0 p (col (trip1 k) 3 l)) := by
  refine readAt_unit _ _ _ (k0_off4_eq k 3) _ _ _ _ _ fun d => ?_
  fin_cases d <;> simp [ix1, ix2, ix3, ix4, col, trip1] <;> omega

theorem rd5_0 (arg4 : Memref sig .tc .vmem S1x5120 .f32) (X : BufTy.Contents (Elt Ideal) arg4.view.ty) (inb) (l : Fin 256) :
    View.readAt (Elt Ideal) arg4.view (Rect.unit (s := S1x5120) (k0_off5 k 0#32) ![1, 256] inb).toLoadRect X (ix2 0 l)
      = arg4.view.read (Elt Ideal) X (ix2 0 (col (trip1 k) 0 l)) := by
  refine readAt_unit _ _ _ (k0_off5_eq k 0) _ _ _ _ _ fun d => ?_
  fin_cases d <;> simp [ix1, ix2, ix3, ix4, col, trip1] <;> omega

theorem rd5_1 (arg4 : Memref sig .tc .vmem S1x5120 .f32) (X : BufTy.Contents (Elt Ideal) arg4.view.ty) (inb) (l : Fin 256) :
    View.readAt (Elt Ideal) arg4.view (Rect.unit (s := S1x5120) (k0_off5 k 256#32) ![1, 256] inb).toLoadRect X (ix2 0 l)
      = arg4.view.read (Elt Ideal) X (ix2 0 (col (trip1 k) 1 l)) := by
  refine readAt_unit _ _ _ (k0_off5_eq k 1) _ _ _ _ _ fun d => ?_
  fin_cases d <;> simp [ix1, ix2, ix3, ix4, col, trip1] <;> omega

theorem rd5_2 (arg4 : Memref sig .tc .vmem S1x5120 .f32) (X : BufTy.Contents (Elt Ideal) arg4.view.ty) (inb) (l : Fin 256) :
    View.readAt (Elt Ideal) arg4.view (Rect.unit (s := S1x5120) (k0_off5 k 512#32) ![1, 256] inb).toLoadRect X (ix2 0 l)
      = arg4.view.read (Elt Ideal) X (ix2 0 (col (trip1 k) 2 l)) := by
  refine readAt_unit _ _ _ (k0_off5_eq k 2) _ _ _ _ _ fun d => ?_
  fin_cases d <;> simp [ix1, ix2, ix3, ix4, col, trip1] <;> omega

theorem rd5_3 (arg4 : Memref sig .tc .vmem S1x5120 .f32) (X : BufTy.Contents (Elt Ideal) arg4.view.ty) (inb) (l : Fin 256) :
    View.readAt (Elt Ideal) arg4.view (Rect.unit (s := S1x5120) (k0_off5 k 768#32) ![1, 256] inb).toLoadRect X (ix2 0 l)
      = arg4.view.read (Elt Ideal) X (ix2 0 (col (trip1 k) 3 l)) := by
  refine readAt_unit _ _ _ (k0_off5_eq k 3) _ _ _ _ _ fun d => ?_
  fin_cases d <;> simp [ix1, ix2, ix3, ix4, col, trip1] <;> omega

theorem rd6_0 (arg5 : Memref sig .tc .vmem S1x128x5120 .bf16) (X : BufTy.Contents (Elt Ideal) arg5.view.ty) (inb) (p : Fin 128) (l : Fin 256) :
    View.readAt (Elt Ideal) arg5.view (Rect.unit (s := S1x128x5120) (k0_off6 k 0#32) ![1, 128, 256] inb).toLoadRect X (ix3 0 p l)
      = arg5.view.read (Elt Ideal) X (ix3 0 p (col (trip1 k) 0 l)) := by
  refine readAt_unit _ _ _ (k0_off6_eq k 0) _ _ _ _ _ fun d => ?_
  fin_cases d <;> simp [ix1, ix2, ix3, ix4, col, trip1] <;> omega

theorem rd6_1 (arg5 : Memref sig .tc .vmem S1x128x5120 .bf16) (X : BufTy.Contents (Elt Ideal) arg5.view.ty) (inb) (p : Fin 128) (l : Fin 256) :
    View.readAt (Elt Ideal) arg5.view (Rect.unit (s := S1x128x5120) (k0_off6 k 256#32) ![1, 128, 256] inb).toLoadRect X (ix3 0 p l)
      = arg5.view.read (Elt Ideal) X (ix3 0 p (col (trip1 k) 1 l)) := by
  refine readAt_unit _ _ _ (k0_off6_eq k 1) _ _ _ _ _ fun d => ?_
  fin_cases d <;> simp [ix1, ix2, ix3, ix4, col, trip1] <;> omega

theorem rd6_2 (arg5 : Memref sig .tc .vmem S1x128x5120 .bf16) (X : BufTy.Contents (Elt Ideal) arg5.view.ty) (inb) (p : Fin 128) (l : Fin 256) :
    View.readAt (Elt Ideal) arg5.view (Rect.unit (s := S1x128x5120) (k0_off6 k 512#32) ![1, 128, 256] inb).toLoadRect X (ix3 0 p l)
      = arg5.view.read (Elt Ideal) X (ix3 0 p (col (trip1 k) 2 l)) := by
  refine readAt_unit _ _ _ (k0_off6_eq k 2) _ _ _ _ _ fun d => ?_
  fin_cases d <;> simp [ix1, ix2, ix3, ix4, col, trip1] <;> omega

theorem rd6_3 (arg5 : Memref sig .tc .vmem S1x128x5120 .bf16) (X : BufTy.Contents (Elt Ideal) arg5.view.ty) (inb) (p : Fin 128) (l : Fin 256) :
    View.readAt (Elt Ideal) arg5.view (Rect.unit (s := S1x128x5120) (k0_off6 k 768#32) ![1, 128, 256] inb).toLoadRect X (ix3 0 p l)
      = arg5.view.read (Elt Ideal) X (ix3 0 p (col (trip1 k) 3 l)) := by
  refine readAt_unit _ _ _ (k0_off6_eq k 3) _ _ _ _ _ fun d => ?_
  fin_cases d <;> simp [ix1, ix2, ix3, ix4, col, trip1] <;> omega

theorem rd1 (arg11 : Memref sig .tc .vmem S2x5x128x32 .bf16) (X : BufTy.Contents (Elt Ideal) arg11.view.ty) (inb) (p : Fin 128) (g : Fin 32) :
    View.readAt (Elt Ideal) arg11.view (Rect.unit (s := S2x5x128x32) (k0_off1 k) ![1, 1, 128, 32] inb).toLoadRect X (ix4 0 0 p g)
      = arg11.view.read (Elt Ideal) X (ix4 0 (trip1 k) p g) := by
  refine readAt_unit _ _ _ (k0_off1_eq k) _ _ _ _ _ fun d => ?_
  fin_cases d <;> simp [ix1, ix2, ix3, ix4, col, trip1] <;> omega

theorem rd2 (arg11 : Memref sig .tc .vmem S2x5x128x32 .bf16) (X : BufTy.Contents (Elt Ideal) arg11.view.ty) (inb) (p : Fin 128) (g : Fin 32) :
    View.readAt (Elt Ideal) arg11.view (Rect.unit (s := S2x5x128x32) (k0_off2 k) ![1, 1, 128, 32] inb).toLoadRect X (ix4 0 0 p g)
      = arg11.view.read (Elt Ideal) X (ix4 1 (trip1 k) p g) := by
  refine readAt_unit _ _ _ (k0_off2_eq k) _ _ _ _ _ fun d => ?_
  fin_cases d <;> simp [ix1, ix2, ix3, ix4, col, trip1] <;> omega

theorem rdE_0 (arg7 : Memref sig .tc .vmem S32x1024 .bf16) (X : BufTy.Contents (Elt Ideal) arg7.view.ty) (inb) (g : Fin 32) (l : Fin 256) :
    View.readAt (Elt Ideal) arg7.view (Rect.unit (s := S32x1024) ![0, 0] ![32, 256] inb).toLoadRect X (ix2 g l)
      = arg7.view.read (Elt Ideal) X (ix2 g ⟨256 * 0 + l.val, by omega⟩) := by
  refine readAt_unit _ _ _ rfl _ _ _ _ _ fun d => ?_
  fin_cases d <;> simp [ix1, ix2, ix3, ix4, col, trip1] <;> omega

theorem rdE_1 (arg7 : Memref sig .tc .vmem S32x1024 .bf16) (X : BufTy.Contents (Elt Ideal) arg7.view.ty) (inb) (g : Fin 32) (l : Fin 256) :
    View.readAt (Elt Ideal) arg7.view (Rect.unit (s := S32x1024) ![0, 256] ![32, 256] inb).toLoadRect X (ix2 g l)
      = arg7.view.read (Elt Ideal) X (ix2 g ⟨256 * 1 + l.val, by omega⟩) := by
  refine readAt_unit _ _ _ rfl _ _ _ _ _ fun d => ?_
  fin_cases d <;> simp [ix1, ix2, ix3, ix4, col, trip1] <;> omega

theorem rdE_2 (arg7 : Memref sig .tc .vmem S32x1024 .bf16) (X : BufTy.Contents (Elt Ideal) arg7.view.ty) (inb) (g : Fin 32) (l : Fin 256) :
    View.readAt (Elt Ideal) arg7.view (Rect.unit (s := S32x1024) ![0, 512] ![32, 256] inb).toLoadRect X (ix2 g l)
      = arg7.view.read (Elt Ideal) X (ix2 g ⟨256 * 2 + l.val, by omega⟩) := by
  refine readAt_unit _ _ _ rfl _ _ _ _ _ fun d => ?_
  fin_cases d <;> simp [ix1, ix2, ix3, ix4, col, trip1] <;> omega

theorem rdE_3 (arg7 : Memref sig .tc .vmem S32x1024 .bf16) (X : BufTy.Contents (Elt Ideal) arg7.view.ty) (inb) (g : Fin 32) (l : Fin 256) :
    View.readAt (Elt Ideal) arg7.view (Rect.unit (s := S32x1024) ![0, 768] ![32, 256] inb).toLoadRect X (ix2 g l)
      = arg7.view.read (Elt Ideal) X (ix2 g ⟨256 * 3 + l.val, by omega⟩) := by
  refine readAt_unit _ _ _ rfl _ _ _ _ _ fun d => ?_
  fin_cases d <;> simp [ix1, ix2, ix3, ix4, col, trip1] <;> omega

end Reads

theorem factor_col (st : S2x5x128x32.Idx → EReal) (ex : S32x1024.Idx → EReal) (d : Fin 2) (p : Fin 128) (k : Fin 5)
    (s : Fin 4) (l : Fin 256) :
    factor st ex d p (col k s l) = ∑ g : Fin 32, st (ix4 d k p g) * ex (ix2 g ⟨256 * s.val + l.val, by omega⟩) := by
  refine Finset.sum_congr rfl fun g _ => ?_
  have h1 : (⟨(col k s l).val / 1024, by omega⟩ : Fin 5) = k := Fin.ext (by simp [col]; omega)
  have h2 : (⟨(col k s l).val % 1024, by omega⟩ : Fin 1024) = ⟨256 * s.val + l.val, by omega⟩ :=
    Fin.ext (by simp [col]; omega)
  rw [h1, h2]

section Trip

variable (𝒱 : Variants) (c : Dev nD) (bd : Option 𝒱.V) (i : grid0.Coords) (arg2 : Memref sig .tc .vmem S2x1x128x5120 .fp8e4m3) (harg2 : arg2.IsWhole) (arg3 : Memref sig .tc .vmem S2x1x160x128 .f32) (harg3 : arg3.IsWhole) (arg4 : Memref sig .tc .vmem S1x5120 .f32) (harg4 : arg4.IsWhole) (arg5 : Memref sig .tc .vmem S1x128x5120 .bf16) (harg5 : arg5.IsWhole) (arg6 : Memref sig .tc .vmem S1x5120 .f32) (harg6 : arg6.IsWhole) (arg7 : Memref sig .tc .vmem S32x1024 .bf16) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x160x128 .f32) (harg10 : arg10.IsWhole) (arg11 : Memref sig .tc .vmem S2x5x128x32 .bf16) (harg11 : arg11.IsWhole) (arg12 : Memref sig .tc .vmem S128x1024 .f32) (harg12 : arg12.IsWhole)
  (v50 : FVec Ideal S32x128 .f32) (X2 : BufTy.Contents (Elt Ideal) arg2.view.ty) (X4 : BufTy.Contents (Elt Ideal) arg4.view.ty)
  (X5 : BufTy.Contents (Elt Ideal) arg5.view.ty) (X7 : BufTy.Contents (Elt Ideal) arg7.view.ty)
  (X11 : BufTy.Contents (Elt Ideal) arg11.view.ty)

/-- The residual of the block whose inputs the memrefs hold. -/
abbrev residOf (p : Fin 128) (q : Fin 5120) : EReal :=
  resid (arg2.view.read (Elt Ideal) X2) (arg11.view.read (Elt Ideal) X11) (arg4.view.read (Elt Ideal) X4)
    (arg5.view.read (Elt Ideal) X5) (arg7.view.read (Elt Ideal) X7) p q

/-- Piece 0 of a trip is the residual of its columns. -/
theorem piece1_0 (k : Fin k0_t1_loop.trips) (p : Fin 128) (l : Fin 256) :
    trip_k0_t1.sl.r arg2 arg4 arg5 arg7 arg11 X2 X4 X5 X7 X11 k (ix2 p l)
      = residOf arg2 arg4 arg5 arg7 arg11 X2 X4 X5 X7 X11 p (col (trip1 k) 0 l) := by
  unfold trip_k0_t1.sl.r
  pointwise [k0_pay2]
  simp only [rd1, rd2, rd3_0, rd4_0, rd5_0, rd6_0, rdE_0]
  rw [residOf, resid, factor_col, factor_col]
  rfl

/-- Piece 1 of a trip is the residual of its columns. -/
theorem piece1_1 (k : Fin k0_t1_loop.trips) (p : Fin 128) (l : Fin 256) :
    k0_pay7 (trip_k0_t1.sl.r_2 arg2 arg4 arg7 arg11 X2 X4 X7 X11 k) (trip_k0_t1.sl.r_3 arg5 X5 k) (ix2 p l)
      = residOf arg2 arg4 arg5 arg7 arg11 X2 X4 X5 X7 X11 p (col (trip1 k) 1 l) := by
  unfold trip_k0_t1.sl.r_2 trip_k0_t1.sl.r_3
  pointwise [k0_pay7, k0_pay5, k0_pay6]
  simp only [rd1, rd2, rd3_1, rd4_1, rd5_1, rd6_1, rdE_1]
  rw [residOf, resid, factor_col, factor_col]
  rfl

/-- Piece 2 of a trip is the residual of its columns. -/
theorem piece1_2 (k : Fin k0_t1_loop.trips) (p : Fin 128) (l : Fin 256) :
    k0_pay12 (trip_k0_t1.sl.r_5 arg2 arg7 arg11 X2 X7 X11 k) (trip_k0_t1.sl.r_6 arg4 X4 k) (View.readAt (Elt Ideal) arg5.view (Rect.unit (s := S1x128x5120) (k0_off6 k 512#32) S1x128x256.size (k0_off6_inb k 2)).toLoadRect X5) (ix2 p l)
      = residOf arg2 arg4 arg5 arg7 arg11 X2 X4 X5 X7 X11 p (col (trip1 k) 2 l) := by
  unfold trip_k0_t1.sl.r_5 trip_k0_t1.sl.r_6
  pointwise [k0_pay12, k0_pay10, k0_pay11]
  simp only [rd1, rd2, rd3_2, rd4_2, rd5_2, rd6_2, rdE_2]
  rw [residOf, resid, factor_col, factor_col]
  rfl

/-- Piece 3 of a trip is the residual of its columns. -/
theorem piece1_3 (k : Fin k0_t1_loop.trips) (p : Fin 128) (l : Fin 256) :
    k0_pay69 (trip_k0_t1.sl.r_8 arg2 arg7 arg11 X2 X7 X11 k) (trip_k0_t1.sl.r_9 arg2 arg7 arg11 X2 X7 X11 k) (View.readAt (Elt Ideal) arg4.view (Rect.unit (s := S1x5120) (k0_off5 k 768#32) S1x256.size (k0_off5_inb k 3)).toLoadRect X4) (View.readAt (Elt Ideal) arg5.view (Rect.unit (s := S1x128x5120) (k0_off6 k 768#32) S1x128x256.size (k0_off6_inb k 3)).toLoadRect X5) (ix2 p l)
      = residOf arg2 arg4 arg5 arg7 arg11 X2 X4 X5 X7 X11 p (col (trip1 k) 3 l) := by
  unfold trip_k0_t1.sl.r_8 trip_k0_t1.sl.r_9
  pointwise [k0_pay69, k0_pay16, k0_pay17, k0_pay15]
  simp only [rd1, rd2, rd3_3, rd4_3, rd5_3, rd6_3, rdE_3]
  rw [residOf, resid, factor_col, factor_col]
  rfl

/-- The residual as a function of an index of the block. -/
def residB (y : S1x128x5120.Idx) : EReal := residOf arg2 arg4 arg5 arg7 arg11 X2 X4 X5 X7 X11 (y 1) (y 2)

theorem st1_0 (v : FVec Ideal S128x256 .bf16) (p : Fin 128) (l : Fin 256) :
    k0_pay3 v (ix3 0 p l) = v (ix2 p l) := by pointwise [k0_pay3]
theorem st1_1 (a b) (p : Fin 128) (l : Fin 256) :
    k0_pay8 (F := Ideal) a b (ix3 0 p l) = k0_pay7 a b (ix2 p l) := by pointwise [k0_pay8]
theorem st1_2 (a b d) (p : Fin 128) (l : Fin 256) :
    k0_pay13 (F := Ideal) a b d (ix3 0 p l) = k0_pay12 a b d (ix2 p l) := by pointwise [k0_pay13]
theorem st1_3 (a b d e) (p : Fin 128) (l : Fin 256) :
    k0_pay70 (F := Ideal) a b d e (ix3 0 p l) = k0_pay69 a b d e (ix2 p l) := by pointwise [k0_pay70]

/-- What one trip stores: every piece is the residual at the place it is stored to. -/
theorem trip1_pieces (k : Fin k0_t1_loop.trips) (acc : FVec Ideal S128x256 .f32) :
    ∀ q ∈ tripL_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 k acc, ∀ x, q.2 x = residB arg2 arg4 arg5 arg7 arg11 X2 X4 X5 X7 X11 (q.1.emb x) := by
  unfold tripL_k0_t1; unfold trip_k0_t1
  refine List.forall_mem_cons.2 ⟨?_, List.forall_mem_cons.2 ⟨?_, List.forall_mem_cons.2 ⟨?_, List.forall_mem_cons.2 ⟨?_, List.forall_mem_nil _⟩⟩⟩⟩
  · refine store_piece (k0_off6 k 768#32) _ (k0_off6_eq k 3) (k0_off6_inb k 3) _ _ _ rfl fun p l h => ?_
    exact (st1_3 _ _ _ _  p l).trans (piece1_3 arg2 arg4 arg5 arg7 arg11 X2 X4 X5 X7 X11 k p l)
  · refine store_piece (k0_off6 k 512#32) _ (k0_off6_eq k 2) (k0_off6_inb k 2) _ _ _ rfl fun p l h => ?_
    exact (st1_2 _ _ _  p l).trans (piece1_2 arg2 arg4 arg5 arg7 arg11 X2 X4 X5 X7 X11 k p l)
  · refine store_piece (k0_off6 k 256#32) _ (k0_off6_eq k 1) (k0_off6_inb k 1) _ _ _ rfl fun p l h => ?_
    exact (st1_1 _ _  p l).trans (piece1_1 arg2 arg4 arg5 arg7 arg11 X2 X4 X5 X7 X11 k p l)
  · refine store_piece (k0_off6 k 0#32) _ (k0_off6_eq k 0) (k0_off6_inb k 0) _ _ _ rfl fun p l h => ?_
    exact (st1_0 _  p l).trans (piece1_0 arg2 arg4 arg5 arg7 arg11 X2 X4 X5 X7 X11 k p l)

/-- The columns of trip `k` are covered by its pieces. -/
theorem trip1_cover (k : Fin k0_t1_loop.trips) (acc : FVec Ideal S128x256 .f32) (y : S1x128x5120.Idx)
    (hy : (y 2).val / 1024 = k.val) :
    ∃ q ∈ tripL_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 k acc, y ∈ q.1.set := by
  unfold tripL_k0_t1; unfold trip_k0_t1
  have h0 := (y 0).isLt; have h1 := (y 1).isLt
  rcases (by omega : (y 2).val % 1024 / 256 = 3 ∨ (y 2).val % 1024 / 256 = 2 ∨ (y 2).val % 1024 / 256 = 1 ∨ (y 2).val % 1024 / 256 = 0) with h | h | h | h
  · exact ⟨_, List.mem_cons_self, mem_piece (k0_off6 k 768#32) _ (k0_off6_eq k 3) (k0_off6_inb k 3) _ rfl y (by simp; omega)⟩
  · exact ⟨_, List.mem_cons_of_mem _ List.mem_cons_self, mem_piece (k0_off6 k 512#32) _ (k0_off6_eq k 2) (k0_off6_inb k 2) _ rfl y (by simp; omega)⟩
  · exact ⟨_, List.mem_cons_of_mem _ (List.mem_cons_of_mem _ List.mem_cons_self), mem_piece (k0_off6 k 256#32) _ (k0_off6_eq k 1) (k0_off6_inb k 1) _ rfl y (by simp; omega)⟩
  · exact ⟨_, List.mem_cons_of_mem _ (List.mem_cons_of_mem _ (List.mem_cons_of_mem _ List.mem_cons_self)), mem_piece (k0_off6 k 0#32) _ (k0_off6_eq k 0) (k0_off6_inb k 0) _ rfl y (by simp; omega)⟩

/-- The square of the residual at a row and a column. -/
def sq (p : Fin 128) (q : Fin 5120) : EReal := residOf arg2 arg4 arg5 arg7 arg11 X2 X4 X5 X7 X11 p q * residOf arg2 arg4 arg5 arg7 arg11 X2 X4 X5 X7 X11 p q

/-- What one trip adds to the carried page: the squares of its four pieces, in order. -/
theorem trip1_acc (k : Fin k0_t1_loop.trips) (acc : FVec Ideal S128x256 .f32) (p : Fin 128) (l : Fin 256) :
    tripR_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 k acc (ix2 p l)
      = acc (ix2 p l) + sq arg2 arg4 arg5 arg7 arg11 X2 X4 X5 X7 X11 p (col (trip1 k) 0 l) + sq arg2 arg4 arg5 arg7 arg11 X2 X4 X5 X7 X11 p (col (trip1 k) 1 l)
        + sq arg2 arg4 arg5 arg7 arg11 X2 X4 X5 X7 X11 p (col (trip1 k) 2 l) + sq arg2 arg4 arg5 arg7 arg11 X2 X4 X5 X7 X11 p (col (trip1 k) 3 l) := by
  unfold tripR_k0_t1; unfold trip_k0_t1; dsimp only
  unfold trip_k0_t1.sl.r_7 trip_k0_t1.sl.r_4 trip_k0_t1.sl.r_1
  pointwise [k0_pay71, k0_pay14, k0_pay9, k0_pay4]
  unfold sq
  rw [← piece1_0 arg2 arg4 arg5 arg7 arg11 X2 X4 X5 X7 X11 k p l, ← piece1_1 arg2 arg4 arg5 arg7 arg11 X2 X4 X5 X7 X11 k p l, ← piece1_2 arg2 arg4 arg5 arg7 arg11 X2 X4 X5 X7 X11 k p l, ← piece1_3 arg2 arg4 arg5 arg7 arg11 X2 X4 X5 X7 X11 k p l]

/-- What lane `l` of trip `n` adds to the carried page, in all four pieces. -/
def addTerm (p : Fin 128) (l : Fin 256) (n : Nat) : EReal :=
  if h : n < 5 then ∑ s : Fin 4, sq arg2 arg4 arg5 arg7 arg11 X2 X4 X5 X7 X11 p (col ⟨n, h⟩ s l) else 0

theorem trips1_eq : k0_t1_loop.trips = 5 := by decide +kernel

/-- The state before trip `n`: every stored piece is the residual, the columns of the trips before are covered, and the
    carried page is the initial one plus the squares so far. -/
theorem st1_spec (init : FVec Ideal S128x256 .f32) (n : Nat) (hn : n ≤ 5) :
    (∀ q ∈ (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 init n).2, ∀ x, q.2 x = residB arg2 arg4 arg5 arg7 arg11 X2 X4 X5 X7 X11 (q.1.emb x)) ∧
    (∀ y : S1x128x5120.Idx, (y 2).val / 1024 < n → ∃ q ∈ (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 init n).2, y ∈ q.1.set) ∧
    (∀ (p : Fin 128) (l : Fin 256), (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 init n).1 (ix2 p l)
      = init (ix2 p l) + ∑ m ∈ Finset.range n, addTerm arg2 arg4 arg5 arg7 arg11 X2 X4 X5 X7 X11 p l m) := by
  induction n with
  | zero =>
    refine ⟨fun q hq => absurd hq List.not_mem_nil, fun y hy => absurd hy (Nat.not_lt_zero _), fun p l => ?_⟩
    rw [Finset.sum_range_zero, add_zero]
    rfl
  | succ n ih =>
    obtain ⟨h1, h2, h3⟩ := ih (by omega)
    have hk : n < k0_t1_loop.trips := by rw [trips1_eq]; omega
    have hs := st_k0_t1_succ (F := Ideal) 𝒱 c bd i arg2 harg2 arg3 harg3 arg4 harg4 arg5 harg5 arg6 harg6 arg7 harg7 arg8 harg8 arg9 harg9 arg10 harg10 arg11 harg11 arg12 harg12 v50 X2 X4 X5 X7 X11 init ⟨n, hk⟩
    dsimp only at hs
    rw [hs]
    refine ⟨fun q hq => ?_, fun y hy => ?_, fun p l => ?_⟩
    · rcases List.mem_append.1 hq with h | h
      · exact trip1_pieces 𝒱 c bd i arg2 harg2 arg3 harg3 arg4 harg4 arg5 harg5 arg6 harg6 arg7 harg7 arg8 harg8 arg9 harg9 arg10 harg10 arg11 harg11 arg12 harg12 v50 X2 X4 X5 X7 X11 ⟨n, hk⟩ _ q h
      · exact h1 q h
    · by_cases hlt : (y 2).val / 1024 < n
      · obtain ⟨q, hq, hy⟩ := h2 y hlt
        exact ⟨q, List.mem_append_right _ hq, hy⟩
      · obtain ⟨q, hq, hy⟩ := trip1_cover 𝒱 c bd i arg2 harg2 arg3 harg3 arg4 harg4 arg5 harg5 arg6 harg6 arg7 harg7 arg8 harg8 arg9 harg9 arg10 harg10 arg11 harg11 arg12 harg12 v50 X2 X4 X5 X7 X11 ⟨n, hk⟩ _ y (by dsimp only; omega)
        exact ⟨q, List.mem_append_left _ hq, hy⟩
    · refine (trip1_acc 𝒱 c bd i arg2 harg2 arg3 harg3 arg4 harg4 arg5 harg5 arg6 harg6 arg7 harg7 arg8 harg8 arg9 harg9 arg10 harg10 arg11 harg11 arg12 harg12 v50 X2 X4 X5 X7 X11 ⟨n, hk⟩ _ p l).trans ?_
      rw [h3, Finset.sum_range_succ]
      have : addTerm arg2 arg4 arg5 arg7 arg11 X2 X4 X5 X7 X11 p l n = sq arg2 arg4 arg5 arg7 arg11 X2 X4 X5 X7 X11 p (col ⟨n, by omega⟩ 0 l) + sq arg2 arg4 arg5 arg7 arg11 X2 X4 X5 X7 X11 p (col ⟨n, by omega⟩ 1 l)
          + sq arg2 arg4 arg5 arg7 arg11 X2 X4 X5 X7 X11 p (col ⟨n, by omega⟩ 2 l) + sq arg2 arg4 arg5 arg7 arg11 X2 X4 X5 X7 X11 p (col ⟨n, by omega⟩ 3 l) := by
        unfold addTerm
        rw [dif_pos (by omega : n < 5), Fin.sum_univ_four]
      rw [this]
      simp only [← add_assoc]
      rfl

/-- After the loop the residual block holds the residual everywhere, whatever it held before. -/
theorem read_resid (init : FVec Ideal S128x256 .f32) (f : BufTy.Contents (Elt Ideal) arg8.view.ty) :
    arg8.view.read (Elt Ideal) (arg8.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 init k0_t1_loop.trips).2)
      = residB arg2 arg4 arg5 arg7 arg11 X2 X4 X5 X7 X11 := by
  obtain ⟨h1, h2, -⟩ := st1_spec 𝒱 c bd i arg2 harg2 arg3 harg3 arg4 harg4 arg5 harg5 arg6 harg6 arg7 harg7 arg8 harg8 arg9 harg9 arg10 harg10 arg11 harg11 arg12 harg12 v50 X2 X4 X5 X7 X11 init k0_t1_loop.trips (by rw [trips1_eq])
  funext y
  have hc : ∃ q ∈ (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 init k0_t1_loop.trips).2, y ∈ q.1.set := by
    refine h2 y ?_
    have : (y 2).val < 5120 := (y 2).isLt
    rw [trips1_eq]; omega
  rw [View.read_writes_apply_eq_canon _ _ _ _ hc]
  exact View.canon_apply_of_pieces (residB arg2 arg4 arg5 arg7 arg11 X2 X4 X5 X7 X11) _ h1 y hc

/-- A sum over the 5120 columns, cut in trips, pieces and lanes. -/
theorem sum_col (g : Fin 5120 → EReal) : ∑ q, g q = ∑ l : Fin 256, ∑ k : Fin 5, ∑ s : Fin 4, g (col k s l) := by
  have h : ∑ q, g q = ∑ t : Fin 256 × Fin 5 × Fin 4, g (col t.2.1 t.2.2 t.1) := by
    symm
    refine Fintype.sum_equiv
      ⟨fun t => col t.2.1 t.2.2 t.1, fun q => (⟨q.val % 256, by omega⟩, ⟨q.val / 1024, by omega⟩, ⟨q.val % 1024 / 256, by omega⟩),
        fun t => ?_, fun q => ?_⟩ _ _ fun t => rfl
    · obtain ⟨l, k, s⟩ := t
      refine Prod.ext (Fin.ext ?_) (Prod.ext (Fin.ext ?_) (Fin.ext ?_)) <;> simp only [col] <;> omega
    · refine Fin.ext ?_
      simp only [col]; omega
  rw [h, Fintype.sum_prod_type]
  exact Finset.sum_congr rfl fun l _ => Fintype.sum_prod_type _

/-- The reciprocal root of a row's mean square plus the small constant. -/
def rstd (p : Fin 128) : EReal :=
  Ideal.rsqrt ((∑ q, sq arg2 arg4 arg5 arg7 arg11 X2 X4 X5 X7 X11 p q) * Ideal.ofBits .f32 0x394CCCCD#32 + Ideal.ofBits .f32 0x358637BD#32)

/-- What the kernel makes of the carried page after the loop is the rows' reciprocal roots. -/
theorem rstd_after (p : Fin 128) :
    k0_pay72 (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 (k0_pay68 (F := Ideal)) k0_t1_loop.trips).1 (ix2 p 0) = rstd arg2 arg4 arg5 arg7 arg11 X2 X4 X5 X7 X11 p := by
  obtain ⟨-, -, h3⟩ := st1_spec 𝒱 c bd i arg2 harg2 arg3 harg3 arg4 harg4 arg5 harg5 arg6 harg6 arg7 harg7 arg8 harg8 arg9 harg9 arg10 harg10 arg11 harg11 arg12 harg12 v50 X2 X4 X5 X7 X11 (k0_pay68 (F := Ideal)) k0_t1_loop.trips (by rw [trips1_eq])
  have h0 : ∀ p l, k0_pay68 (F := Ideal) (ix2 p l) = 0 := fun p l => by pointwise [k0_pay68]
  have hs : ∀ l, (st_k0_t1 (F := Ideal) 𝒱 c bd i arg2 harg2 arg3 harg3 arg4 harg4 arg5 harg5 arg6 harg6 arg7 harg7 arg8 harg8 arg9 harg9 arg10 harg10 arg11 harg11 arg12 harg12 v50 X2 X4 X5 X7 X11 (k0_pay68 (F := Ideal)) k0_t1_loop.trips).1 (ix2 p l)
      = ∑ k : Fin 5, ∑ s : Fin 4, sq arg2 arg4 arg5 arg7 arg11 X2 X4 X5 X7 X11 p (col k s l) := fun l => by
    rw [h3, h0, zero_add, trips1_eq, Finset.sum_range]
    refine Finset.sum_congr rfl fun k _ => ?_
    unfold addTerm
    rw [dif_pos k.isLt]
  pointwise [k0_pay72]
  unfold rstd
  rw [sum_col]
  simp only [hs]

end Trip

end Cert.KernelIdeal.Val

end
-- ==== Proof.Loop2.lean ====
/-
  THE SECOND LOOP OF THE KERNEL BODY, OVER THE EXTENDED REALS.

  Trip `k` handles the columns `1024 k … 1024 k + 1023`. It normalises the residual of its columns, takes the largest
  absolute value of every group of 32 columns, turns the 32 group maxima into scales and inverse scales, and stores the
  scales and the quantised columns. This module states those values (`normed`, `gmax`, `scaleK`, `invK`, `code`), and
  shows that the stored pieces of every trip are exactly these.
-/
module

public import proofs.«01_k».proof.Proof.Loop1
public import Idealize.ShloMosaic.Lib.WritesUnit

@[expose] public section

set_option maxRecDepth 65536
set_option maxHeartbeats 1000000

noncomputable section

namespace Cert.KernelIdeal.Val

open Idealize.ShloMosaic Idealize.ShloMosaic.TcCoe Idealize.ShloMosaic.Tactic
open Idealize.SL Idealize.SL.Sem
open Cert.KernelIdeal Cert.KernelIdeal.Gen

theorem trips2_eq : k0_t2_loop.trips = 5 := by decide +kernel

/-- A trip of the second loop as a number below five. -/
def trip2 (k : Fin k0_t2_loop.trips) : Fin 5 := ⟨k.val, lt_of_lt_of_eq k.isLt trips2_eq⟩

/-! ## The values -/

/-- The normalised residual: the residual times the row's reciprocal root times the column's gain. -/
def normed (h : S1x128x5120.Idx → EReal) (rs : S128x1.Idx → EReal) (ga : S1x5120.Idx → EReal) (p : Fin 128)
    (q : Fin 5120) : EReal :=
  h (ix3 0 p q) * rs (ix2 p 0) * ga (ix2 0 q)

/-- The largest absolute value, after the shrinking factor, of group `g` of row `p`. -/
def gmax (h : S1x128x5120.Idx → EReal) (rs : S128x1.Idx → EReal) (ga : S1x5120.Idx → EReal) (g : Fin 160)
    (p : Fin 128) : EReal :=
  Finset.fold max (Ideal.ofBits .bf16 0xFF80#16)
    (fun x : Fin 32 => FloatOps.absf (F := Ideal) (φ := .bf16)
      (normed h rs ga p ⟨32 * g.val + x.val, by omega⟩ * Ideal.ofBits .f32 0x3F7F6DB8#32)) Finset.univ

/-- One step of the search for the largest boundary not above `a`: the bit is kept unless `a` is below the boundary of
    the number with the bit set. -/
def probe (a : EReal) (cur b : BitVec 32) : BitVec 32 :=
  if a < Ideal.ofBits .f32 (IntOp.subi (IntOp.shli .vector (IntOp.ori cur b) 23#32) 2097152#32) then cur
  else IntOp.ori cur b

/-- The search over the eight bits, from the highest. -/
def bindex (a : EReal) : BitVec 32 :=
  probe a (probe a (probe a (probe a (probe a (probe a (probe a (probe a 0#32 128#32) 64#32) 32#32) 16#32) 8#32) 4#32)
    2#32) 1#32

/-- The scale of a group whose largest value is `a`. -/
def scaleK (a : EReal) : EReal :=
  Scalar.select (IntOp.cmpi .sge (bindex a) 10#32)
    (Ideal.ofBits .f32 (IntOp.shli .vector (IntOp.subi (bindex a) 8#32) 23#32)) 1

/-- The inverse scale of a group whose largest value is `a`. -/
def invK (a : EReal) : EReal :=
  Scalar.select (IntOp.cmpi .sge (bindex a) 10#32)
    (Ideal.ofBits .f32 (IntOp.shli .vector (IntOp.subi 262#32 (bindex a)) 23#32)) 1

/-- The quantised value at row `p` and column `q`. -/
def code (h : S1x128x5120.Idx → EReal) (rs : S128x1.Idx → EReal) (ga : S1x5120.Idx → EReal)
    (ex : S32x1024.Idx → EReal) (p : Fin 128) (q : Fin 5120) : EReal :=
  min (Ideal.ofBits .f32 0x43E00000#32) (max (Ideal.ofBits .f32 0xC3E00000#32)
    (normed h rs ga p q * ∑ g : Fin 32, invK (gmax h rs ga ⟨32 * (q.val / 1024) + g.val, by omega⟩ p)
      * ex (ix2 g ⟨q.val % 1024, by omega⟩)))

/-! ## The search, as vectors -/

/-- One step of the search, on a page. -/
def probeV (v : FVec Ideal S32x128 .f32) (cur : IVec S32x128 32) (b : BitVec 32) : IVec S32x128 32 :=
  have t := ori cur (broadcast S32x128 b)
  select (cmpf .olt v (bitcastToFloat .f32 (subi (shli t (broadcast S32x128 23#32)) (broadcast S32x128 2097152#32)))) cur t

theorem probeV_at (v : FVec Ideal S32x128 .f32) (cur : IVec S32x128 32) (b : BitVec 32) (g : Fin 32) (p : Fin 128) :
    probeV v cur b (ix2 g p) = probe (v (ix2 g p)) (cur (ix2 g p)) b := by
  pointwise [probeV]
  rfl

theorem search_at (v : FVec Ideal S32x128 .f32) (g : Fin 32) (p : Fin 128) :
    k0_pay48 (F := Ideal) v (k0_pay45 v k0_pay42 k0_pay43 k0_pay44) (k0_pay46 v k0_pay42 k0_pay43 k0_pay44)
      (k0_pay47 v k0_pay42 k0_pay43 k0_pay44) (ix2 g p) = bindex (v (ix2 g p)) := by
  have e : k0_pay48 (F := Ideal) v (k0_pay45 v k0_pay42 k0_pay43 k0_pay44) (k0_pay46 v k0_pay42 k0_pay43 k0_pay44)
      (k0_pay47 v k0_pay42 k0_pay43 k0_pay44)
      = probeV v (probeV v (probeV v (probeV v (probeV v (probeV v (probeV v (probeV v k0_pay42 128#32) 64#32) 32#32)
          16#32) 8#32) 4#32) 2#32) 1#32 := rfl
  rw [e]
  simp only [probeV_at]
  rfl

theorem scale_at (v : FVec Ideal S32x128 .f32) (g : Fin 32) (p : Fin 128) :
    k0_pay50 (F := Ideal) v (k0_pay45 v k0_pay42 k0_pay43 k0_pay44) (k0_pay46 v k0_pay42 k0_pay43 k0_pay44)
      (k0_pay47 v k0_pay42 k0_pay43 k0_pay44) (ix3 0 g p) = scaleK (v (ix2 g p)) := by
  pointwise [k0_pay50, k0_pay49]
  rw [search_at]
  rfl

theorem inv_at (v : FVec Ideal S32x128 .f32) (g : Fin 32) (p : Fin 128) :
    k0_pay51 (F := Ideal) v (k0_pay45 v k0_pay42 k0_pay43 k0_pay44) (k0_pay46 v k0_pay42 k0_pay43 k0_pay44)
      (k0_pay47 v k0_pay42 k0_pay43 k0_pay44) (ix2 p g) = invK (v (ix2 g p)) := by
  pointwise [k0_pay51, k0_pay49]
  rw [search_at]
  rfl

/-! ## Reading and storing at the trip's places -/

section Reads
variable (k : Fin k0_t2_loop.trips)

theorem rd7_0 (arg8 : Memref sig .tc .vmem S1x128x5120 .bf16) (X : BufTy.Contents (Elt Ideal) arg8.view.ty) (inb) (p : Fin 128) (l : Fin 256) :
    View.readAt (Elt Ideal) arg8.view (Rect.unit (s := S1x128x5120) (k0_off7 k 0#32) ![1, 128, 256] inb).toLoadRect X (ix3 0 p l)
      = arg8.view.read (Elt Ideal) X (ix3 0 p (col (trip2 k) 0 l)) := by
  refine readAt_unit _ _ _ (k0_off7_eq k 0) _ _ _ _ _ fun d => ?_
  fin_cases d <;> simp [ix1, ix2, ix3, ix4, col, trip2] <;> omega

theorem rd7_1 (arg8 : Memref sig .tc .vmem S1x128x5120 .bf16) (X : BufTy.Contents (Elt Ideal) arg8.view.ty) (inb) (p : Fin 128) (l : Fin 256) :
    View.readAt (Elt Ideal) arg8.view (Rect.unit (s := S1x128x5120) (k0_off7 k 256#32) ![1, 128, 256] inb).toLoadRect X (ix3 0 p l)
      = arg8.view.read (Elt Ideal) X (ix3 0 p (col (trip2 k) 1 l)) := by
  refine readAt_unit _ _ _ (k0_off7_eq k 1) _ _ _ _ _ fun d => ?_
  fin_cases d <;> simp [ix1, ix2, ix3, ix4, col, trip2] <;> omega

theorem rd7_2 (arg8 : Memref sig .tc .vmem S1x128x5120 .bf16) (X : BufTy.Contents (Elt Ideal) arg8.view.ty) (inb) (p : Fin 128) (l : Fin 256) :
    View.readAt (Elt Ideal) arg8.view (Rect.unit (s := S1x128x5120) (k0_off7 k 512#32) ![1, 128, 256] inb).toLoadRect X (ix3 0 p l)
      = arg8.view.read (Elt Ideal) X (ix3 0 p (col (trip2 k) 2 l)) := by
  refine readAt_unit _ _ _ (k0_off7_eq k 2) _ _ _ _ _ fun d => ?_
  fin_cases d <;> simp [ix1, ix2, ix3, ix4, col, trip2] <;> omega

theorem rd7_3 (arg8 : Memref sig .tc .vmem S1x128x5120 .bf16) (X : BufTy.Contents (Elt Ideal) arg8.view.ty) (inb) (p : Fin 128) (l : Fin 256) :
    View.readAt (Elt Ideal) arg8.view (Rect.unit (s := S1x128x5120) (k0_off7 k 768#32) ![1, 128, 256] inb).toLoadRect X (ix3 0 p l)
      = arg8.view.read (Elt Ideal) X (ix3 0 p (col (trip2 k) 3 l)) := by
  refine readAt_unit _ _ _ (k0_off7_eq k 3) _ _ _ _ _ fun d => ?_
  fin_cases d <;> simp [ix1, ix2, ix3, ix4, col, trip2] <;> omega

theorem rd8_0 (arg6 : Memref sig .tc .vmem S1x5120 .f32) (X : BufTy.Contents (Elt Ideal) arg6.view.ty) (inb) (l : Fin 256) :
    View.readAt (Elt Ideal) arg6.view (Rect.unit (s := S1x5120) (k0_off8 k 0#32) ![1, 256] inb).toLoadRect X (ix2 0 l)
      = arg6.view.read (Elt Ideal) X (ix2 0 (col (trip2 k) 0 l)) := by
  refine readAt_unit _ _ _ (k0_off8_eq k 0) _ _ _ _ _ fun d => ?_
  fin_cases d <;> simp [ix1, ix2, ix3, ix4, col, trip2] <;> omega

theorem rd8_1 (arg6 : Memref sig .tc .vmem S1x5120 .f32) (X : BufTy.Contents (Elt Ideal) arg6.view.ty) (inb) (l : Fin 256) :
    View.readAt (Elt Ideal) arg6.view (Rect.unit (s := S1x5120) (k0_off8 k 256#32) ![1, 256] inb).toLoadRect X (ix2 0 l)
      = arg6.view.read (Elt Ideal) X (ix2 0 (col (trip2 k) 1 l)) := by
  refine readAt_unit _ _ _ (k0_off8_eq k 1) _ _ _ _ _ fun d => ?_
  fin_cases d <;> simp [ix1, ix2, ix3, ix4, col, trip2] <;> omega

theorem rd8_2 (arg6 : Memref sig .tc .vmem S1x5120 .f32) (X : BufTy.Contents (Elt Ideal) arg6.view.ty) (inb) (l : Fin 256) :
    View.readAt (Elt Ideal) arg6.view (Rect.unit (s := S1x5120) (k0_off8 k 512#32) ![1, 256] inb).toLoadRect X (ix2 0 l)
      = arg6.view.read (Elt Ideal) X (ix2 0 (col (trip2 k) 2 l)) := by
  refine readAt_unit _ _ _ (k0_off8_eq k 2) _ _ _ _ _ fun d => ?_
  fin_cases d <;> simp [ix1, ix2, ix3, ix4, col, trip2] <;> omega

theorem rd8_3 (arg6 : Memref sig .tc .vmem S1x5120 .f32) (X : BufTy.Contents (Elt Ideal) arg6.view.ty) (inb) (l : Fin 256) :
    View.readAt (Elt Ideal) arg6.view (Rect.unit (s := S1x5120) (k0_off8 k 768#32) ![1, 256] inb).toLoadRect X (ix2 0 l)
      = arg6.view.read (Elt Ideal) X (ix2 0 (col (trip2 k) 3 l)) := by
  refine readAt_unit _ _ _ (k0_off8_eq k 3) _ _ _ _ _ fun d => ?_
  fin_cases d <;> simp [ix1, ix2, ix3, ix4, col, trip2] <;> omega

end Reads

/-- A store of `n` rows of a page of 160 rows that holds `G` at its place agrees with `G` under its rectangle. -/
theorem store_rows (n : Nat) (off off' : Fin 3 → Nat) (ho : off = off') (inb)
    (P : (⟨3, ![1, n, 128]⟩ : Shape).Idx → EReal) (G : S1x160x128.Idx → EReal) (r0 : Nat) (hc : off' = ![0, r0, 0])
    (h : ∀ (a : Fin n) (p : Fin 128) (h : r0 + a.val < 160), P (ix3 0 a p) = G (ix3 0 ⟨r0 + a.val, h⟩ p)) :
    ∀ x : (Rect.unit (s := S1x160x128) off ![1, n, 128] inb).shape.Idx,
      P x = G ((Rect.unit (s := S1x160x128) off ![1, n, 128] inb).emb x) := by
  subst ho; subst hc
  intro x
  have hb : r0 + n ≤ 160 := inb 1
  have hx1 : (x 1).val < n := (x 1).isLt
  have hlt : r0 + (x 1).val < 160 := by omega
  have hx : x = ix3 (0 : Fin 1) (x 1) (x 2) := by
    funext d; fin_cases d
    · exact Subsingleton.elim (α := Fin 1) _ _
    · rfl
    · rfl
  have he : (Rect.unit (s := S1x160x128) ![0, r0, 0] ![1, n, 128] inb).emb x = ix3 0 ⟨r0 + (x 1).val, hlt⟩ (x 2) := by
    funext d; apply Fin.ext
    rw [ValueKit.rect_emb_unit_val]
    fin_cases d
    · have h1 : (x 0).val < 1 := (x 0).isLt; simp [ix3]
    · simp [ix3]
    · simp [ix3]
  rw [he]
  exact (congrArg P hx).trans (h (x 1) (x 2) hlt)

/-- Membership in such a rectangle: the row is among the `n` from the rectangle's first. -/
theorem mem_rows (n : Nat) (off off' : Fin 3 → Nat) (ho : off = off') (inb) (r0 : Nat) (hc : off' = ![0, r0, 0])
    (y : S1x160x128.Idx) :
    y ∈ (Rect.unit (s := S1x160x128) off ![1, n, 128] inb).set ↔ r0 ≤ (y 1).val ∧ (y 1).val < r0 + n := by
  subst ho; subst hc
  rw [Rect.mem_set_unit]
  have h0 : (y 0).val < 1 := (y 0).isLt
  have h2 : (y 2).val < 128 := (y 2).isLt
  constructor
  · intro h; exact h 1
  · intro h d
    fin_cases d
    · exact ⟨Nat.zero_le _, by simpa using h0⟩
    · exact h
    · exact ⟨Nat.zero_le _, by simpa using h2⟩

/-- A store of 256 columns of the 1024-column scratch page that holds `G` at its place agrees with `G`. -/
theorem store_cols (c0 : Nat) (inb) (P : S128x256.Idx → EReal) (G : S128x1024.Idx → EReal)
    (h : ∀ (p : Fin 128) (l : Fin 256) (h : c0 + l.val < 1024), P (ix2 p l) = G (ix2 p ⟨c0 + l.val, h⟩)) :
    ∀ x : (Rect.unit (s := S128x1024) ![0, c0] S128x256.size inb).shape.Idx,
      P x = G ((Rect.unit (s := S128x1024) ![0, c0] S128x256.size inb).emb x) := by
  intro x
  have hb : c0 + 256 ≤ 1024 := inb 1
  have hx1 : (x 1).val < 256 := (x 1).isLt
  have hlt : c0 + (x 1).val < 1024 := by omega
  have hx : x = ix2 (x 0) (x 1) := by
    funext d; fin_cases d
    · rfl
    · rfl
  have he : (Rect.unit (s := S128x1024) ![0, c0] S128x256.size inb).emb x = ix2 (x 0) ⟨c0 + (x 1).val, hlt⟩ := by
    funext d; apply Fin.ext
    rw [ValueKit.rect_emb_unit_val]
    fin_cases d
    · simp [ix2]
    · simp [ix2]
  rw [he]
  exact (congrArg P hx).trans (h (x 0) (x 1) hlt)

theorem mem_cols (c0 : Nat) (inb) (y : S128x1024.Idx) (h : c0 ≤ (y 1).val ∧ (y 1).val < c0 + 256) :
    y ∈ (Rect.unit (s := S128x1024) ![0, c0] S128x256.size inb).set := by
  rw [Rect.mem_set_unit]
  have h0 : (y 0).val < 128 := (y 0).isLt
  intro d
  fin_cases d
  · exact ⟨Nat.zero_le _, by simpa using h0⟩
  · exact h

/-! ## One trip -/

section Trip

variable (𝒱 : Variants) (c : Dev nD) (bd : Option 𝒱.V) (i : grid0.Coords) (arg2 : Memref sig .tc .vmem S2x1x128x5120 .fp8e4m3) (harg2 : arg2.IsWhole) (arg3 : Memref sig .tc .vmem S2x1x160x128 .f32) (harg3 : arg3.IsWhole) (arg4 : Memref sig .tc .vmem S1x5120 .f32) (harg4 : arg4.IsWhole) (arg5 : Memref sig .tc .vmem S1x128x5120 .bf16) (harg5 : arg5.IsWhole) (arg6 : Memref sig .tc .vmem S1x5120 .f32) (harg6 : arg6.IsWhole) (arg7 : Memref sig .tc .vmem S32x1024 .bf16) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x160x128 .f32) (harg10 : arg10.IsWhole) (arg11 : Memref sig .tc .vmem S2x5x128x32 .bf16) (harg11 : arg11.IsWhole) (arg12 : Memref sig .tc .vmem S128x1024 .f32) (harg12 : arg12.IsWhole)
  (v79 : FVec Ideal S128x1 .f32) (X6 : BufTy.Contents (Elt Ideal) arg6.view.ty) (X7 : BufTy.Contents (Elt Ideal) arg7.view.ty)
  (X8 : BufTy.Contents (Elt Ideal) arg8.view.ty)

/-- The normalised residual of the block the memrefs hold. -/
abbrev nrm (p : Fin 128) (q : Fin 5120) : EReal :=
  normed (arg8.view.read (Elt Ideal) X8) v79 (arg6.view.read (Elt Ideal) X6) p q

/-- Its group maxima. -/
abbrev gmx (g : Fin 160) (p : Fin 128) : EReal :=
  gmax (arg8.view.read (Elt Ideal) X8) v79 (arg6.view.read (Elt Ideal) X6) g p

/-- The group maxima as a function of an index of the page. -/
def gmxB (y : S1x160x128.Idx) : EReal := gmx arg6 arg8 v79 X6 X8 (y 1) (y 2)

/-- The scales as a function of an index of the page. -/
def scaleB (y : S1x160x128.Idx) : EReal := scaleK (gmx arg6 arg8 v79 X6 X8 (y 1) (y 2))

/-- The codes as a function of an index of the block. -/
def codeB (y : S1x128x5120.Idx) : EReal :=
  code (arg8.view.read (Elt Ideal) X8) v79 (arg6.view.read (Elt Ideal) X6) (arg7.view.read (Elt Ideal) X7) (y 1) (y 2)

/-- The normalised columns of trip `k`, as the scratch page holds them. -/
def nrmB (k : Fin 5) (y : S128x1024.Idx) : EReal :=
  nrm arg6 arg8 v79 X6 X8 (y 0) ⟨1024 * k.val + (y 1).val, by have : (y 1).val < 1024 := (y 1).isLt; omega⟩

variable (k : Fin k0_t2_loop.trips)

theorem norm2_0 (p : Fin 128) (l : Fin 256) :
    k0_pay19 (F := Ideal) v79 (View.readAt (Elt Ideal) arg8.view (Rect.unit (s := S1x128x5120) (k0_off7 k 0#32) S1x128x256.size (k0_off7_inb k 0)).toLoadRect X8) (View.readAt (Elt Ideal) arg6.view (Rect.unit (s := S1x5120) (k0_off8 k 0#32) S1x256.size (k0_off8_inb k 0)).toLoadRect X6) (ix2 p l) = nrm arg6 arg8 v79 X6 X8 p (col (trip2 k) 0 l) := by
  pointwise [k0_pay19, k0_pay18]
  simp only [rd7_0, rd8_0]
  rfl

theorem norm2_1 (p : Fin 128) (l : Fin 256) :
    k0_pay25 (F := Ideal) v79 (View.readAt (Elt Ideal) arg8.view (Rect.unit (s := S1x128x5120) (k0_off7 k 256#32) S1x128x256.size (k0_off7_inb k 1)).toLoadRect X8) (View.readAt (Elt Ideal) arg6.view (Rect.unit (s := S1x5120) (k0_off8 k 256#32) S1x256.size (k0_off8_inb k 1)).toLoadRect X6) (ix2 p l) = nrm arg6 arg8 v79 X6 X8 p (col (trip2 k) 1 l) := by
  pointwise [k0_pay25, k0_pay24]
  simp only [rd7_1, rd8_1]
  rfl

theorem norm2_2 (p : Fin 128) (l : Fin 256) :
    k0_pay30 (F := Ideal) v79 (View.readAt (Elt Ideal) arg8.view (Rect.unit (s := S1x128x5120) (k0_off7 k 512#32) S1x128x256.size (k0_off7_inb k 2)).toLoadRect X8) (View.readAt (Elt Ideal) arg6.view (Rect.unit (s := S1x5120) (k0_off8 k 512#32) S1x256.size (k0_off8_inb k 2)).toLoadRect X6) (ix2 p l) = nrm arg6 arg8 v79 X6 X8 p (col (trip2 k) 2 l) := by
  pointwise [k0_pay30, k0_pay29]
  simp only [rd7_2, rd8_2]
  rfl

theorem norm2_3 (p : Fin 128) (l : Fin 256) :
    k0_pay36 (F := Ideal) v79 (View.readAt (Elt Ideal) arg8.view (Rect.unit (s := S1x128x5120) (k0_off7 k 768#32) S1x128x256.size (k0_off7_inb k 3)).toLoadRect X8) (View.readAt (Elt Ideal) arg6.view (Rect.unit (s := S1x5120) (k0_off8 k 768#32) S1x256.size (k0_off8_inb k 3)).toLoadRect X6) (ix2 p l) = nrm arg6 arg8 v79 X6 X8 p (col (trip2 k) 3 l) := by
  pointwise [k0_pay36, k0_pay35]
  simp only [rd7_3, rd8_3]
  rfl

theorem gm2_0_0 (a : Fin 4) (p : Fin 128) (h : 32 * k.val + 8 * 0 + 4 * 0 + a.val < 160) :
    k0_pay21 v79 (View.readAt (Elt Ideal) arg8.view (Rect.unit (s := S1x128x5120) (k0_off7 k 0#32) S1x128x256.size (k0_off7_inb k 0)).toLoadRect X8) (View.readAt (Elt Ideal) arg6.view (Rect.unit (s := S1x5120) (k0_off8 k 0#32) S1x256.size (k0_off8_inb k 0)).toLoadRect X6) (ix3 0 a p) = gmx arg6 arg8 v79 X6 X8 ⟨32 * k.val + 8 * 0 + 4 * 0 + a.val, h⟩ p := by
  skip
  pointwise [k0_pay21, k0_pay20, k0_pay18]
  simp only [rd7_0, rd8_0]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_0_1 (a : Fin 4) (p : Fin 128) (h : 32 * k.val + 8 * 0 + 4 * 1 + a.val < 160) :
    k0_pay23 (trip_k0_t2.sl.r arg6 arg8 v79 X6 X8 k) (ix3 0 a p) = gmx arg6 arg8 v79 X6 X8 ⟨32 * k.val + 8 * 0 + 4 * 1 + a.val, h⟩ p := by
  unfold trip_k0_t2.sl.r
  pointwise [k0_pay23, k0_pay22, k0_pay20, k0_pay18]
  simp only [rd7_0, rd8_0]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_1_0 (a : Fin 4) (p : Fin 128) (h : 32 * k.val + 8 * 1 + 4 * 0 + a.val < 160) :
    trip_k0_t2.sl.r_2 arg6 arg8 v79 X6 X8 k (ix3 0 a p) = gmx arg6 arg8 v79 X6 X8 ⟨32 * k.val + 8 * 1 + 4 * 0 + a.val, h⟩ p := by
  unfold trip_k0_t2.sl.r_2
  pointwise [k0_pay27, k0_pay26, k0_pay24]
  simp only [rd7_1, rd8_1]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_1_1 (a : Fin 4) (p : Fin 128) (h : 32 * k.val + 8 * 1 + 4 * 1 + a.val < 160) :
    k0_pay28 (trip_k0_t2.sl.r_1 arg6 arg8 v79 X6 X8 k) (ix3 0 a p) = gmx arg6 arg8 v79 X6 X8 ⟨32 * k.val + 8 * 1 + 4 * 1 + a.val, h⟩ p := by
  unfold trip_k0_t2.sl.r_1
  pointwise [k0_pay28, k0_pay26, k0_pay24]
  simp only [rd7_1, rd8_1]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_2_0 (a : Fin 4) (p : Fin 128) (h : 32 * k.val + 8 * 2 + 4 * 0 + a.val < 160) :
    k0_pay33 (trip_k0_t2.sl.r_4 arg6 arg8 v79 X6 X8 k) (ix3 0 a p) = gmx arg6 arg8 v79 X6 X8 ⟨32 * k.val + 8 * 2 + 4 * 0 + a.val, h⟩ p := by
  unfold trip_k0_t2.sl.r_4
  pointwise [k0_pay33, k0_pay32, k0_pay31, k0_pay29]
  simp only [rd7_2, rd8_2]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_2_1 (a : Fin 4) (p : Fin 128) (h : 32 * k.val + 8 * 2 + 4 * 1 + a.val < 160) :
    k0_pay34 (trip_k0_t2.sl.r_3 arg6 arg8 v79 X6 X8 k) (ix3 0 a p) = gmx arg6 arg8 v79 X6 X8 ⟨32 * k.val + 8 * 2 + 4 * 1 + a.val, h⟩ p := by
  unfold trip_k0_t2.sl.r_3
  pointwise [k0_pay34, k0_pay31, k0_pay29]
  simp only [rd7_2, rd8_2]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_3_0 (a : Fin 4) (p : Fin 128) (h : 32 * k.val + 8 * 3 + 4 * 0 + a.val < 160) :
    k0_pay39 (trip_k0_t2.sl.r_5 arg6 arg8 v79 X6 X8 k) (ix3 0 a p) = gmx arg6 arg8 v79 X6 X8 ⟨32 * k.val + 8 * 3 + 4 * 0 + a.val, h⟩ p := by
  unfold trip_k0_t2.sl.r_5
  pointwise [k0_pay39, k0_pay38, k0_pay37, k0_pay35]
  simp only [rd7_3, rd8_3]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

theorem gm2_3_1 (a : Fin 4) (p : Fin 128) (h : 32 * k.val + 8 * 3 + 4 * 1 + a.val < 160) :
    k0_pay40 (trip_k0_t2.sl.r_5 arg6 arg8 v79 X6 X8 k) (ix3 0 a p) = gmx arg6 arg8 v79 X6 X8 ⟨32 * k.val + 8 * 3 + 4 * 1 + a.val, h⟩ p := by
  unfold trip_k0_t2.sl.r_5
  pointwise [k0_pay40, k0_pay38, k0_pay37, k0_pay35]
  simp only [rd7_3, rd8_3]
  refine congrArg (fun f => Finset.fold max _ f Finset.univ) (funext fun x => ?_)
  refine congrArg (fun q => FloatOps.absf (F := Ideal) (φ := .bf16) (nrm arg6 arg8 v79 X6 X8 p q * Ideal.ofBits .f32 0x3F7F6DB8#32))
    (Fin.ext ?_)
  simp [col, trip2]; omega

/-- The group maxima the trip stores. -/
theorem gm2_pieces : ∀ q ∈ trip_k0_t2.sl.HW_arg10_8 (F := Ideal) arg6 arg8 v79 X6 X8 k, ∀ x,
    q.2 x = gmxB arg6 arg8 v79 X6 X8 (q.1.emb x) := by
  delta trip_k0_t2.sl.HW_arg10_8
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · refine store_rows 4 (k0_off9 k 24#32 4#32) _ (k0_off9_eq k 3 1) (k0_off9_inb k 3 1) _ _ _ rfl fun a p h => ?_
    exact gm2_3_1 arg6 arg8 v79 X6 X8 k a p h
  · refine store_rows 4 (k0_off9 k 24#32 0#32) _ (k0_off9_eq k 3 0) (k0_off9_inb k 3 0) _ _ _ rfl fun a p h => ?_
    exact gm2_3_0 arg6 arg8 v79 X6 X8 k a p h
  · refine store_rows 4 (k0_off9 k 16#32 4#32) _ (k0_off9_eq k 2 1) (k0_off9_inb k 2 1) _ _ _ rfl fun a p h => ?_
    exact gm2_2_1 arg6 arg8 v79 X6 X8 k a p h
  · refine store_rows 4 (k0_off9 k 16#32 0#32) _ (k0_off9_eq k 2 0) (k0_off9_inb k 2 0) _ _ _ rfl fun a p h => ?_
    exact gm2_2_0 arg6 arg8 v79 X6 X8 k a p h
  · refine store_rows 4 (k0_off9 k 8#32 4#32) _ (k0_off9_eq k 1 1) (k0_off9_inb k 1 1) _ _ _ rfl fun a p h => ?_
    exact gm2_1_1 arg6 arg8 v79 X6 X8 k a p h
  · refine store_rows 4 (k0_off9 k 8#32 0#32) _ (k0_off9_eq k 1 0) (k0_off9_inb k 1 0) _ _ _ rfl fun a p h => ?_
    exact gm2_1_0 arg6 arg8 v79 X6 X8 k a p h
  · refine store_rows 4 (k0_off9 k 0#32 4#32) _ (k0_off9_eq k 0 1) (k0_off9_inb k 0 1) _ _ _ rfl fun a p h => ?_
    exact gm2_0_1 arg6 arg8 v79 X6 X8 k a p h
  · refine store_rows 4 (k0_off9 k 0#32 0#32) _ (k0_off9_eq k 0 0) (k0_off9_inb k 0 0) _ _ _ rfl fun a p h => ?_
    exact gm2_0_0 arg6 arg8 v79 X6 X8 k a p h

/-- They cover the trip's 32 rows. -/
theorem gm2_cover (y : S1x160x128.Idx) (hy : (y 1).val / 32 = k.val) :
    ∃ q ∈ trip_k0_t2.sl.HW_arg10_8 (F := Ideal) arg6 arg8 v79 X6 X8 k, y ∈ q.1.set := by
  delta trip_k0_t2.sl.HW_arg10_8
  rcases (by omega : (y 1).val % 32 / 4 = 7 ∨ (y 1).val % 32 / 4 = 6 ∨ (y 1).val % 32 / 4 = 5 ∨ (y 1).val % 32 / 4 = 4 ∨ (y 1).val % 32 / 4 = 3 ∨ (y 1).val % 32 / 4 = 2 ∨ (y 1).val % 32 / 4 = 1 ∨ (y 1).val % 32 / 4 = 0) with h | h | h | h | h | h | h | h
  · exact ⟨_, List.mem_cons_self, (mem_rows 4 (k0_off9 k 24#32 4#32) _ (k0_off9_eq k 3 1) (k0_off9_inb k 3 1) _ rfl y).2 (by simp; omega)⟩
  · exact ⟨_, List.mem_cons_of_mem _ (List.mem_cons_self), (mem_rows 4 (k0_off9 k 24#32 0#32) _ (k0_off9_eq k 3 0) (k0_off9_inb k 3 0) _ rfl y).2 (by simp; omega)⟩
  · exact ⟨_, List.mem_cons_of_mem _ (List.mem_cons_of_mem _ (List.mem_cons_self)), (mem_rows 4 (k0_off9 k 16#32 4#32) _ (k0_off9_eq k 2 1) (k0_off9_inb k 2 1) _ rfl y).2 (by simp; omega)⟩
  · exact ⟨_, List.mem_cons_of_mem _ (List.mem_cons_of_mem _ (List.mem_cons_of_mem _ (List.mem_cons_self))), (mem_rows 4 (k0_off9 k 16#32 0#32) _ (k0_off9_eq k 2 0) (k0_off9_inb k 2 0) _ rfl y).2 (by simp; omega)⟩
  · exact ⟨_, List.mem_cons_of_mem _ (List.mem_cons_of_mem _ (List.mem_cons_of_mem _ (List.mem_cons_of_mem _ (List.mem_cons_self)))), (mem_rows 4 (k0_off9 k 8#32 4#32) _ (k0_off9_eq k 1 1) (k0_off9_inb k 1 1) _ rfl y).2 (by simp; omega)⟩
  · exact ⟨_, List.mem_cons_of_mem _ (List.mem_cons_of_mem _ (List.mem_cons_of_mem _ (List.mem_cons_of_mem _ (List.mem_cons_of_mem _ (List.mem_cons_self))))), (mem_rows 4 (k0_off9 k 8#32 0#32) _ (k0_off9_eq k 1 0) (k0_off9_inb k 1 0) _ rfl y).2 (by simp; omega)⟩
  · exact ⟨_, List.mem_cons_of_mem _ (List.mem_cons_of_mem _ (List.mem_cons_of_mem _ (List.mem_cons_of_mem _ (List.mem_cons_of_mem _ (List.mem_cons_of_mem _ (List.mem_cons_self)))))), (mem_rows 4 (k0_off9 k 0#32 4#32) _ (k0_off9_eq k 0 1) (k0_off9_inb k 0 1) _ rfl y).2 (by simp; omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (mem_rows 4 (k0_off9 k 0#32 0#32) _ (k0_off9_eq k 0 0) (k0_off9_inb k 0 0) _ rfl y).2 (by simp; omega)⟩

/-- They lie within the trip's 32 rows. -/
theorem gm2_within (y : S1x160x128.Idx) : ∀ q ∈ trip_k0_t2.sl.HW_arg10_8 (F := Ideal) arg6 arg8 v79 X6 X8 k,
    y ∈ q.1.set → (y 1).val / 32 = k.val := by
  delta trip_k0_t2.sl.HW_arg10_8
  refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩
  · intro h; have h' := (mem_rows 4 (k0_off9 k 24#32 4#32) _ (k0_off9_eq k 3 1) (k0_off9_inb k 3 1) _ rfl y).1 h; simp at h'; omega
  · intro h; have h' := (mem_rows 4 (k0_off9 k 24#32 0#32) _ (k0_off9_eq k 3 0) (k0_off9_inb k 3 0) _ rfl y).1 h; simp at h'; omega
  · intro h; have h' := (mem_rows 4 (k0_off9 k 16#32 4#32) _ (k0_off9_eq k 2 1) (k0_off9_inb k 2 1) _ rfl y).1 h; simp at h'; omega
  · intro h; have h' := (mem_rows 4 (k0_off9 k 16#32 0#32) _ (k0_off9_eq k 2 0) (k0_off9_inb k 2 0) _ rfl y).1 h; simp at h'; omega
  · intro h; have h' := (mem_rows 4 (k0_off9 k 8#32 4#32) _ (k0_off9_eq k 1 1) (k0_off9_inb k 1 1) _ rfl y).1 h; simp at h'; omega
  · intro h; have h' := (mem_rows 4 (k0_off9 k 8#32 0#32) _ (k0_off9_eq k 1 0) (k0_off9_inb k 1 0) _ rfl y).1 h; simp at h'; omega
  · intro h; have h' := (mem_rows 4 (k0_off9 k 0#32 4#32) _ (k0_off9_eq k 0 1) (k0_off9_inb k 0 1) _ rfl y).1 h; simp at h'; omega
  · intro h; have h' := (mem_rows 4 (k0_off9 k 0#32 0#32) _ (k0_off9_eq k 0 0) (k0_off9_inb k 0 0) _ rfl y).1 h; simp at h'; omega

/-- The group maxima the trip reads back. -/
theorem back2 (g : Fin 32) (p : Fin 128) (h : 32 * k.val + g.val < 160) :
    trip_k0_t2.sl.v272 (F := Ideal) arg6 arg8 arg10 v79 X6 X8 k (ix3 0 g p) = gmx arg6 arg8 v79 X6 X8 ⟨32 * k.val + g.val, h⟩ p := by
  delta trip_k0_t2.sl.v272
  rw [View.readCov_eq_canon']
  have hi : (Rect.unit (s := S1x160x128) (k0_off10 k) S1x32x128.size (k0_off10_inb k)).toLoadRect.idx (ix3 0 g p)
      = (ix3 0 ⟨32 * k.val + g.val, h⟩ p : S1x160x128.Idx) := by
    funext d; apply Fin.ext
    refine (ValueKit.rect_emb_unit_val (s := S1x160x128) (k0_off10 k) S1x32x128.size (k0_off10_inb k) (ix3 0 g p) d).trans ?_
    rw [congrFun (k0_off10_eq k) d]
    fin_cases d <;> simp [ix3]
  show View.canon _ ((Rect.unit (s := S1x160x128) (k0_off10 k) S1x32x128.size (k0_off10_inb k)).toLoadRect.idx (ix3 0 g p)) = _
  rw [hi]
  exact View.canon_apply_of_pieces (gmxB arg6 arg8 v79 X6 X8) _ (gm2_pieces arg6 arg8 v79 X6 X8 k) _
    (gm2_cover arg6 arg8 v79 X6 X8 k (ix3 0 ⟨32 * k.val + g.val, h⟩ p) (by show (32 * k.val + g.val) / 32 = k.val; omega))

theorem page2 (g : Fin 32) (p : Fin 128) (h : 32 * k.val + g.val < 160) :
    trip_k0_t2.sl.r_6 (F := Ideal) arg6 arg8 arg10 v79 X6 X8 k (ix2 g p) = gmx arg6 arg8 v79 X6 X8 ⟨32 * k.val + g.val, h⟩ p := by
  unfold trip_k0_t2.sl.r_6
  pointwise [k0_pay41]
  exact back2 arg6 arg8 arg10 v79 X6 X8 k g p h

/-- The inverse scales of the trip's groups. -/
theorem inv2 (g : Fin 32) (p : Fin 128) (h : 32 * k.val + g.val < 160) :
    trip_k0_t2.sl.r_10 (F := Ideal) arg6 arg8 arg10 v79 X6 X8 k (ix2 p g)
      = invK (gmx arg6 arg8 v79 X6 X8 ⟨32 * k.val + g.val, h⟩ p) := by
  unfold trip_k0_t2.sl.r_10 trip_k0_t2.sl.r_9 trip_k0_t2.sl.r_8 trip_k0_t2.sl.r_7
  rw [inv_at, page2 arg6 arg8 arg10 v79 X6 X8 k g p h]

/-- The normalised columns the trip stores to the scratch page. -/
theorem nrm2_pieces : ∀ q ∈ trip_k0_t2.sl.HW_arg12_4 (F := Ideal) arg6 arg8 v79 X6 X8 k, ∀ x,
    q.2 x = nrmB arg6 arg8 v79 X6 X8 (trip2 k) (q.1.emb x) := by
  delta trip_k0_t2.sl.HW_arg12_4
  refine List.forall_mem_cons.2 ⟨?_, List.forall_mem_cons.2 ⟨?_, List.forall_mem_cons.2 ⟨?_, List.forall_mem_cons.2 ⟨?_, List.forall_mem_nil _⟩⟩⟩⟩
  · refine store_cols 768 inb_S128x1024_S128x256_0_768 _ _ fun p l h => ?_
    refine (norm2_3 arg6 arg8 v79 X6 X8 k p l).trans (congrArg (nrm arg6 arg8 v79 X6 X8 p) (Fin.ext ?_))
    simp [col, ix2]
    try omega
  · refine store_cols 512 inb_S128x1024_S128x256_0_512 _ _ fun p l h => ?_
    refine (norm2_2 arg6 arg8 v79 X6 X8 k p l).trans (congrArg (nrm arg6 arg8 v79 X6 X8 p) (Fin.ext ?_))
    simp [col, ix2]
    try omega
  · refine store_cols 256 inb_S128x1024_S128x256_0_256 _ _ fun p l h => ?_
    refine (norm2_1 arg6 arg8 v79 X6 X8 k p l).trans (congrArg (nrm arg6 arg8 v79 X6 X8 p) (Fin.ext ?_))
    simp [col, ix2]
    try omega
  · refine store_cols 0 inb_S128x1024_S128x256_0_0 _ _ fun p l h => ?_
    refine (norm2_0 arg6 arg8 v79 X6 X8 k p l).trans (congrArg (nrm arg6 arg8 v79 X6 X8 p) (Fin.ext ?_))
    simp [col, ix2]
    try omega

theorem nback2_0 (p : Fin 128) (l : Fin 256) :
    trip_k0_t2.sl.v375 (F := Ideal) arg6 arg8 arg12 v79 X6 X8 k (ix2 p l) = nrm arg6 arg8 v79 X6 X8 p (col (trip2 k) 0 l) := by
  delta trip_k0_t2.sl.v375
  rw [View.readCov_eq_canon']
  have hi : (Rect.unit (s := S128x1024) ![0, 0] S128x256.size inb_S128x1024_S128x256_0_0).toLoadRect.idx (ix2 p l)
      = (ix2 p ⟨0 + l.val, by omega⟩ : S128x1024.Idx) := by
    funext d; apply Fin.ext
    refine (ValueKit.rect_emb_unit_val (s := S128x1024) ![0, 0] S128x256.size inb_S128x1024_S128x256_0_0 (ix2 p l) d).trans ?_
    fin_cases d <;> simp [ix2]
  show View.canon _ ((Rect.unit (s := S128x1024) ![0, 0] S128x256.size inb_S128x1024_S128x256_0_0).toLoadRect.idx (ix2 p l)) = _
  rw [hi]
  refine (View.canon_apply_of_pieces (nrmB arg6 arg8 v79 X6 X8 (trip2 k)) _ (nrm2_pieces arg6 arg8 v79 X6 X8 k) _ ?_).trans ?_
  · delta trip_k0_t2.sl.HW_arg12_4
    exact ⟨_, List.mem_cons_of_mem _ (List.mem_cons_of_mem _ (List.mem_cons_of_mem _ (List.mem_cons_self))), mem_cols 0 inb_S128x1024_S128x256_0_0 _ ⟨by simp [ix2], by simp [ix2]; try omega⟩⟩
  · refine congrArg (nrm arg6 arg8 v79 X6 X8 p) (Fin.ext ?_)
    simp [col, ix2]
    try omega

theorem nback2_1 (p : Fin 128) (l : Fin 256) :
    trip_k0_t2.sl.v392 (F := Ideal) arg6 arg8 arg12 v79 X6 X8 k (ix2 p l) = nrm arg6 arg8 v79 X6 X8 p (col (trip2 k) 1 l) := by
  delta trip_k0_t2.sl.v392
  rw [View.readCov_eq_canon']
  have hi : (Rect.unit (s := S128x1024) ![0, 256] S128x256.size inb_S128x1024_S128x256_0_256).toLoadRect.idx (ix2 p l)
      = (ix2 p ⟨256 + l.val, by omega⟩ : S128x1024.Idx) := by
    funext d; apply Fin.ext
    refine (ValueKit.rect_emb_unit_val (s := S128x1024) ![0, 256] S128x256.size inb_S128x1024_S128x256_0_256 (ix2 p l) d).trans ?_
    fin_cases d <;> simp [ix2]
  show View.canon _ ((Rect.unit (s := S128x1024) ![0, 256] S128x256.size inb_S128x1024_S128x256_0_256).toLoadRect.idx (ix2 p l)) = _
  rw [hi]
  refine (View.canon_apply_of_pieces (nrmB arg6 arg8 v79 X6 X8 (trip2 k)) _ (nrm2_pieces arg6 arg8 v79 X6 X8 k) _ ?_).trans ?_
  · delta trip_k0_t2.sl.HW_arg12_4
    exact ⟨_, List.mem_cons_of_mem _ (List.mem_cons_of_mem _ (List.mem_cons_self)), mem_cols 256 inb_S128x1024_S128x256_0_256 _ ⟨by simp [ix2], by simp [ix2]; try omega⟩⟩
  · refine congrArg (nrm arg6 arg8 v79 X6 X8 p) (Fin.ext ?_)
    simp [col, ix2]
    try omega

theorem nback2_2 (p : Fin 128) (l : Fin 256) :
    trip_k0_t2.sl.v409 (F := Ideal) arg6 arg8 arg12 v79 X6 X8 k (ix2 p l) = nrm arg6 arg8 v79 X6 X8 p (col (trip2 k) 2 l) := by
  delta trip_k0_t2.sl.v409
  rw [View.readCov_eq_canon']
  have hi : (Rect.unit (s := S128x1024) ![0, 512] S128x256.size inb_S128x1024_S128x256_0_512).toLoadRect.idx (ix2 p l)
      = (ix2 p ⟨512 + l.val, by omega⟩ : S128x1024.Idx) := by
    funext d; apply Fin.ext
    refine (ValueKit.rect_emb_unit_val (s := S128x1024) ![0, 512] S128x256.size inb_S128x1024_S128x256_0_512 (ix2 p l) d).trans ?_
    fin_cases d <;> simp [ix2]
  show View.canon _ ((Rect.unit (s := S128x1024) ![0, 512] S128x256.size inb_S128x1024_S128x256_0_512).toLoadRect.idx (ix2 p l)) = _
  rw [hi]
  refine (View.canon_apply_of_pieces (nrmB arg6 arg8 v79 X6 X8 (trip2 k)) _ (nrm2_pieces arg6 arg8 v79 X6 X8 k) _ ?_).trans ?_
  · delta trip_k0_t2.sl.HW_arg12_4
    exact ⟨_, List.mem_cons_of_mem _ (List.mem_cons_self), mem_cols 512 inb_S128x1024_S128x256_0_512 _ ⟨by simp [ix2], by simp [ix2]; try omega⟩⟩
  · refine congrArg (nrm arg6 arg8 v79 X6 X8 p) (Fin.ext ?_)
    simp [col, ix2]
    try omega

theorem nback2_3 (p : Fin 128) (l : Fin 256) :
    trip_k0_t2.sl.v426 (F := Ideal) arg6 arg8 arg12 v79 X6 X8 k (ix2 p l) = nrm arg6 arg8 v79 X6 X8 p (col (trip2 k) 3 l) := by
  delta trip_k0_t2.sl.v426
  rw [View.readCov_eq_canon']
  have hi : (Rect.unit (s := S128x1024) ![0, 768] S128x256.size inb_S128x1024_S128x256_0_768).toLoadRect.idx (ix2 p l)
      = (ix2 p ⟨768 + l.val, by omega⟩ : S128x1024.Idx) := by
    funext d; apply Fin.ext
    refine (ValueKit.rect_emb_unit_val (s := S128x1024) ![0, 768] S128x256.size inb_S128x1024_S128x256_0_768 (ix2 p l) d).trans ?_
    fin_cases d <;> simp [ix2]
  show View.canon _ ((Rect.unit (s := S128x1024) ![0, 768] S128x256.size inb_S128x1024_S128x256_0_768).toLoadRect.idx (ix2 p l)) = _
  rw [hi]
  refine (View.canon_apply_of_pieces (nrmB arg6 arg8 v79 X6 X8 (trip2 k)) _ (nrm2_pieces arg6 arg8 v79 X6 X8 k) _ ?_).trans ?_
  · delta trip_k0_t2.sl.HW_arg12_4
    exact ⟨_, List.mem_cons_self, mem_cols 768 inb_S128x1024_S128x256_0_768 _ ⟨by simp [ix2], by simp [ix2]; try omega⟩⟩
  · refine congrArg (nrm arg6 arg8 v79 X6 X8 p) (Fin.ext ?_)
    simp [col, ix2]
    try omega

theorem codeB_col (p : Fin 128) (r : Fin 4) (l : Fin 256) (q : Fin 5120) (hq : q = col (trip2 k) r l) :
    codeB arg6 arg7 arg8 v79 X6 X7 X8 (ix3 0 p q)
      = min (Ideal.ofBits .f32 0x43E00000#32) (max (Ideal.ofBits .f32 0xC3E00000#32)
          (nrm arg6 arg8 v79 X6 X8 p (col (trip2 k) r l) * ∑ g : Fin 32,
            invK (gmx arg6 arg8 v79 X6 X8 ⟨32 * (trip2 k).val + g.val, by omega⟩ p)
              * arg7.view.read (Elt Ideal) X7 (ix2 g ⟨256 * r.val + l.val, by omega⟩))) := by
  subst hq
  show code _ _ _ _ p (col (trip2 k) r l) = _
  unfold code
  have h1 : (col (trip2 k) r l).val / 1024 = (trip2 k).val := by simp [col]; omega
  have h2 : (⟨(col (trip2 k) r l).val % 1024, by omega⟩ : Fin 1024) = ⟨256 * r.val + l.val, by omega⟩ :=
    Fin.ext (by simp [col]; omega)
  rw [h2]
  simp only [h1]

theorem code2_0 (p : Fin 128) (l : Fin 256) (q : Fin 5120) (hq : q = col (trip2 k) 0 l) :
    k0_pay52 (trip_k0_t2.sl.r_10 arg6 arg8 arg10 v79 X6 X8 k) (View.readAt (Elt Ideal) arg7.view (Rect.unit (s := S32x1024) ![0, 0] S32x256.size inb_S32x1024_S32x256_0_0).toLoadRect X7) (trip_k0_t2.sl.v375 arg6 arg8 arg12 v79 X6 X8 k) (ix3 0 p l) = codeB arg6 arg7 arg8 v79 X6 X7 X8 (ix3 0 p q) := by
  rw [codeB_col arg6 arg7 arg8 v79 X6 X7 X8 k p 0 l q hq]
  skip
  pointwise [k0_pay52]
  simp only [rdE_0, nback2_0]
  refine congrArg (fun t => min _ (max _ (_ * t))) (Finset.sum_congr rfl fun g _ => ?_)
  rw [inv2 arg6 arg8 arg10 v79 X6 X8 k g p (by have := (trip2 k).isLt; simp [trip2] at this; omega)]
  refine congrArg (fun j => _ * arg7.view.read (Elt Ideal) X7 (ix2 g j)) (Fin.ext ?_)
  simp

theorem code2_1 (p : Fin 128) (l : Fin 256) (q : Fin 5120) (hq : q = col (trip2 k) 1 l) :
    k0_pay53 (trip_k0_t2.sl.r_10 arg6 arg8 arg10 v79 X6 X8 k) (View.readAt (Elt Ideal) arg7.view (Rect.unit (s := S32x1024) ![0, 256] S32x256.size inb_S32x1024_S32x256_0_256).toLoadRect X7) (trip_k0_t2.sl.v392 arg6 arg8 arg12 v79 X6 X8 k) (ix3 0 p l) = codeB arg6 arg7 arg8 v79 X6 X7 X8 (ix3 0 p q) := by
  rw [codeB_col arg6 arg7 arg8 v79 X6 X7 X8 k p 1 l q hq]
  skip
  pointwise [k0_pay53]
  simp only [rdE_1, nback2_1]
  refine congrArg (fun t => min _ (max _ (_ * t))) (Finset.sum_congr rfl fun g _ => ?_)
  rw [inv2 arg6 arg8 arg10 v79 X6 X8 k g p (by have := (trip2 k).isLt; simp [trip2] at this; omega)]
  refine congrArg (fun j => _ * arg7.view.read (Elt Ideal) X7 (ix2 g j)) (Fin.ext ?_)
  simp

theorem code2_2 (p : Fin 128) (l : Fin 256) (q : Fin 5120) (hq : q = col (trip2 k) 2 l) :
    k0_pay54 (trip_k0_t2.sl.r_10 arg6 arg8 arg10 v79 X6 X8 k) (trip_k0_t2.sl.r_11 arg7 X7) (trip_k0_t2.sl.v409 arg6 arg8 arg12 v79 X6 X8 k) (ix3 0 p l) = codeB arg6 arg7 arg8 v79 X6 X7 X8 (ix3 0 p q) := by
  rw [codeB_col arg6 arg7 arg8 v79 X6 X7 X8 k p 2 l q hq]
  unfold trip_k0_t2.sl.r_11
  pointwise [k0_pay54]
  simp only [rdE_2, nback2_2]
  refine congrArg (fun t => min _ (max _ (_ * t))) (Finset.sum_congr rfl fun g _ => ?_)
  rw [inv2 arg6 arg8 arg10 v79 X6 X8 k g p (by have := (trip2 k).isLt; simp [trip2] at this; omega)]
  refine congrArg (fun j => _ * arg7.view.read (Elt Ideal) X7 (ix2 g j)) (Fin.ext ?_)
  simp

theorem code2_3 (p : Fin 128) (l : Fin 256) (q : Fin 5120) (hq : q = col (trip2 k) 3 l) :
    k0_pay1 (trip_k0_t2.sl.r_12 arg6 arg7 arg8 arg10 arg12 v79 X6 X7 X8 k) (ix3 0 p l) = codeB arg6 arg7 arg8 v79 X6 X7 X8 (ix3 0 p q) := by
  rw [codeB_col arg6 arg7 arg8 v79 X6 X7 X8 k p 3 l q hq]
  unfold trip_k0_t2.sl.r_12
  pointwise [k0_pay1, k0_pay55]
  simp only [rdE_3, nback2_3]
  refine congrArg (fun t => min _ (max _ (_ * t))) (Finset.sum_congr rfl fun g _ => ?_)
  rw [inv2 arg6 arg8 arg10 v79 X6 X8 k g p (by have := (trip2 k).isLt; simp [trip2] at this; omega)]
  refine congrArg (fun j => _ * arg7.view.read (Elt Ideal) X7 (ix2 g j)) (Fin.ext ?_)
  simp

/-- The codes the trip stores. -/
theorem trip2_codes (f9 f10 f12) : ∀ q ∈ (tripL_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 k f9 f10 f12).1, ∀ x,
    q.2 x = codeB arg6 arg7 arg8 v79 X6 X7 X8 (q.1.emb x) := by
  unfold tripL_k0_t2; unfold trip_k0_t2
  refine List.forall_mem_cons.2 ⟨?_, List.forall_mem_cons.2 ⟨?_, List.forall_mem_cons.2 ⟨?_, List.forall_mem_cons.2 ⟨?_, List.forall_mem_nil _⟩⟩⟩⟩
  · refine store_piece (e := .fp8e4m3) (k0_off7 k 768#32) _ (k0_off7_eq k 3) (k0_off7_inb k 3) _ _ _ rfl fun p l h => ?_
    exact code2_3 arg6 arg7 arg8 arg10 arg12 v79 X6 X7 X8 k p l _ (Fin.ext rfl)
  · refine store_piece (e := .fp8e4m3) (k0_off7 k 512#32) _ (k0_off7_eq k 2) (k0_off7_inb k 2) _ _ _ rfl fun p l h => ?_
    exact code2_2 arg6 arg7 arg8 arg10 arg12 v79 X6 X7 X8 k p l _ (Fin.ext rfl)
  · refine store_piece (e := .fp8e4m3) (k0_off7 k 256#32) _ (k0_off7_eq k 1) (k0_off7_inb k 1) _ _ _ rfl fun p l h => ?_
    exact code2_1 arg6 arg7 arg8 arg10 arg12 v79 X6 X7 X8 k p l _ (Fin.ext rfl)
  · refine store_piece (e := .fp8e4m3) (k0_off7 k 0#32) _ (k0_off7_eq k 0) (k0_off7_inb k 0) _ _ _ rfl fun p l h => ?_
    exact code2_0 arg6 arg7 arg8 arg10 arg12 v79 X6 X7 X8 k p l _ (Fin.ext rfl)

/-- They cover the trip's columns. -/
theorem trip2_codes_cover (f9 f10 f12) (y : S1x128x5120.Idx) (hy : (y 2).val / 1024 = k.val) :
    ∃ q ∈ (tripL_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 k f9 f10 f12).1, y ∈ q.1.set := by
  unfold tripL_k0_t2; unfold trip_k0_t2
  rcases (by omega : (y 2).val % 1024 / 256 = 3 ∨ (y 2).val % 1024 / 256 = 2 ∨ (y 2).val % 1024 / 256 = 1 ∨ (y 2).val % 1024 / 256 = 0) with h | h | h | h
  · exact ⟨_, List.mem_cons_self, mem_piece (k0_off7 k 768#32) _ (k0_off7_eq k 3) (k0_off7_inb k 3) _ rfl y (by simp; omega)⟩
  · exact ⟨_, List.mem_cons_of_mem _ (List.mem_cons_self), mem_piece (k0_off7 k 512#32) _ (k0_off7_eq k 2) (k0_off7_inb k 2) _ rfl y (by simp; omega)⟩
  · exact ⟨_, List.mem_cons_of_mem _ (List.mem_cons_of_mem _ (List.mem_cons_self)), mem_piece (k0_off7 k 256#32) _ (k0_off7_eq k 1) (k0_off7_inb k 1) _ rfl y (by simp; omega)⟩
  · exact ⟨_, List.mem_cons_of_mem _ (List.mem_cons_of_mem _ (List.mem_cons_of_mem _ (List.mem_cons_self))), mem_piece (k0_off7 k 0#32) _ (k0_off7_eq k 0) (k0_off7_inb k 0) _ rfl y (by simp; omega)⟩

/-- After a trip the page of scales holds the trip's scales in its 32 rows and what it held before elsewhere. -/
theorem trip2_scales (f9 f10 f12) (f : BufTy.Contents (Elt Ideal) arg10.view.ty) (g : Fin 160) (p : Fin 128) :
    arg10.view.read (Elt Ideal) (arg10.view.writes (Elt Ideal) f (tripL_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 k f9 f10 f12).2.1) (ix3 0 g p)
      = if g.val / 32 = k.val then scaleK (gmx arg6 arg8 v79 X6 X8 g p) else arg10.view.read (Elt Ideal) f (ix3 0 g p) := by
  have hl : (tripL_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 k f9 f10 f12).2.1
      = ⟨Rect.unit (s := S1x160x128) (k0_off10 k) S1x32x128.size (k0_off10_inb k), k0_pay50 (trip_k0_t2.sl.r_6 arg6 arg8 arg10 v79 X6 X8 k)
          (trip_k0_t2.sl.r_7 arg6 arg8 arg10 v79 X6 X8 k) (trip_k0_t2.sl.r_8 arg6 arg8 arg10 v79 X6 X8 k)
          (trip_k0_t2.sl.r_9 arg6 arg8 arg10 v79 X6 X8 k)⟩ :: trip_k0_t2.sl.HW_arg10_8 (F := Ideal) arg6 arg8 v79 X6 X8 k := by
    unfold tripL_k0_t2; unfold trip_k0_t2; rfl
  rw [hl]
  by_cases h : g.val / 32 = k.val
  · rw [if_pos h]
    have hg : 32 * k.val + g.val % 32 = g.val := by omega
    refine (View.read_writes_cons_unit_of_mem arg10.view f (k0_off10_inb k) _ _ (ix3 0 g p)
      (ix3 0 ⟨g.val % 32, by omega⟩ p : S1x32x128.Idx) (k0_off10_eq k)
      (fun d => by fin_cases d <;> simp [ix3]; omega)).trans ?_
    unfold trip_k0_t2.sl.r_9 trip_k0_t2.sl.r_8 trip_k0_t2.sl.r_7
    rw [scale_at, page2 arg6 arg8 arg10 v79 X6 X8 k _ p (by simp; omega)]
    simp only [hg]
  · rw [if_neg h]
    refine (View.read_writes_cons_unit_of_not_mem arg10.view f (k0_off10_inb k) _ _ (ix3 0 g p) (k0_off10_eq k) 1
      (by simp [ix3]; omega)).trans ?_
    exact View.read_writes_apply_of_forall_not_mem _ _ _ _ fun q hq hy => h (gm2_within arg6 arg8 v79 X6 X8 k _ q hq hy)

end Trip

/-! ## All trips -/

section After

variable (𝒱 : Variants) (c : Dev nD) (bd : Option 𝒱.V) (i : grid0.Coords) (arg2 : Memref sig .tc .vmem S2x1x128x5120 .fp8e4m3) (harg2 : arg2.IsWhole) (arg3 : Memref sig .tc .vmem S2x1x160x128 .f32) (harg3 : arg3.IsWhole) (arg4 : Memref sig .tc .vmem S1x5120 .f32) (harg4 : arg4.IsWhole) (arg5 : Memref sig .tc .vmem S1x128x5120 .bf16) (harg5 : arg5.IsWhole) (arg6 : Memref sig .tc .vmem S1x5120 .f32) (harg6 : arg6.IsWhole) (arg7 : Memref sig .tc .vmem S32x1024 .bf16) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x160x128 .f32) (harg10 : arg10.IsWhole) (arg11 : Memref sig .tc .vmem S2x5x128x32 .bf16) (harg11 : arg11.IsWhole) (arg12 : Memref sig .tc .vmem S128x1024 .f32) (harg12 : arg12.IsWhole)
  (v79 : FVec Ideal S128x1 .f32) (X6 : BufTy.Contents (Elt Ideal) arg6.view.ty) (X7 : BufTy.Contents (Elt Ideal) arg7.view.ty)
  (X8 : BufTy.Contents (Elt Ideal) arg8.view.ty) (G9 : BufTy.Contents (Elt Ideal) arg9.view.ty)
  (G10 : BufTy.Contents (Elt Ideal) arg10.view.ty) (G12 : BufTy.Contents (Elt Ideal) arg12.view.ty)

/-- What the first `n` trips leave: their code pieces agree with `codeB` and cover the columns so far; the scale page
holds the scales of the rows so far. -/
theorem pb2_spec (n : Nat) (hn : n ≤ 5) :
    (∀ q ∈ (pb_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 n).1, ∀ x, q.2 x = codeB arg6 arg7 arg8 v79 X6 X7 X8 (q.1.emb x)) ∧
    (∀ y : S1x128x5120.Idx, (y 2).val / 1024 < n → ∃ q ∈ (pb_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 n).1, y ∈ q.1.set) ∧
    (∀ (f : BufTy.Contents (Elt Ideal) arg10.view.ty) (g : Fin 160) (p : Fin 128), g.val / 32 < n →
      arg10.view.read (Elt Ideal) (arg10.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 n).2.1) (ix3 0 g p)
        = scaleK (gmx arg6 arg8 v79 X6 X8 g p)) := by
  induction n with
  | zero =>
    exact ⟨fun q hq => absurd hq List.not_mem_nil, fun y hy => absurd hy (Nat.not_lt_zero _),
      fun f g p hg => absurd hg (Nat.not_lt_zero _)⟩
  | succ n ih =>
    obtain ⟨h1, h2, h3⟩ := ih (by omega)
    have hk : n < k0_t2_loop.trips := by rw [trips2_eq]; omega
    have hs := pb_k0_t2_succ (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 ⟨n, hk⟩
    dsimp only at hs
    rw [hs]
    refine ⟨fun q hq => ?_, fun y hy => ?_, fun f g p hg => ?_⟩
    · rcases List.mem_append.1 hq with h | h
      · exact trip2_codes 𝒱 c bd i arg2 harg2 arg3 harg3 arg4 harg4 arg5 harg5 arg6 harg6 arg7 harg7 arg8 harg8 arg9 harg9 arg10 harg10 arg11 harg11 arg12 harg12 v79 X6 X7 X8 ⟨n, hk⟩ _ _ _ q h
      · exact h1 q h
    · by_cases hlt : (y 2).val / 1024 < n
      · obtain ⟨q, hq, hy⟩ := h2 y hlt
        exact ⟨q, List.mem_append_right _ hq, hy⟩
      · obtain ⟨q, hq, hy⟩ := trip2_codes_cover 𝒱 c bd i arg2 harg2 arg3 harg3 arg4 harg4 arg5 harg5 arg6 harg6 arg7 harg7 arg8 harg8 arg9 harg9 arg10 harg10 arg11 harg11 arg12 harg12 v79 X6 X7 X8 ⟨n, hk⟩ _ _ _ y (by dsimp only; omega)
        exact ⟨q, List.mem_append_left _ hq, hy⟩
    · dsimp only
      rw [View.writes_append]
      refine (trip2_scales 𝒱 c bd i arg2 harg2 arg3 harg3 arg4 harg4 arg5 harg5 arg6 harg6 arg7 harg7 arg8 harg8 arg9 harg9 arg10 harg10 arg11 harg11 arg12 harg12 v79 X6 X7 X8 ⟨n, hk⟩ _ _ _ _ g p).trans ?_
      dsimp only
      by_cases hgn : g.val / 32 = n
      · rw [if_pos hgn]
      · rw [if_neg hgn]
        exact h3 f g p (by omega)

/-- After the loop the code block holds the codes everywhere, whatever it held before. -/
theorem read_codes (f : BufTy.Contents (Elt Ideal) arg9.view.ty) :
    arg9.view.read (Elt Ideal) (arg9.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 k0_t2_loop.trips).1)
      = codeB arg6 arg7 arg8 v79 X6 X7 X8 := by
  obtain ⟨h1, h2, -⟩ := pb2_spec 𝒱 c bd i arg2 harg2 arg3 harg3 arg4 harg4 arg5 harg5 arg6 harg6 arg7 harg7 arg8 harg8 arg9 harg9 arg10 harg10 arg11 harg11 arg12 harg12 v79 X6 X7 X8 G9 G10 G12 k0_t2_loop.trips (by rw [trips2_eq])
  funext y
  have hc : ∃ q ∈ (pb_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 k0_t2_loop.trips).1, y ∈ q.1.set := by
    refine h2 y ?_
    have : (y 2).val < 5120 := (y 2).isLt
    rw [trips2_eq]; omega
  rw [View.read_writes_apply_eq_canon _ _ _ _ hc]
  exact View.canon_apply_of_pieces _ _ h1 y hc

/-- After the loop the scale page holds the scales everywhere, whatever it held before. -/
theorem read_scales (f : BufTy.Contents (Elt Ideal) arg10.view.ty) :
    arg10.view.read (Elt Ideal) (arg10.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 v79 X6 X7 X8 G9 G10 G12 k0_t2_loop.trips).2.1)
      = scaleB arg6 arg8 v79 X6 X8 := by
  obtain ⟨-, -, h3⟩ := pb2_spec 𝒱 c bd i arg2 harg2 arg3 harg3 arg4 harg4 arg5 harg5 arg6 harg6 arg7 harg7 arg8 harg8 arg9 harg9 arg10 harg10 arg11 harg11 arg12 harg12 v79 X6 X7 X8 G9 G10 G12 k0_t2_loop.trips (by rw [trips2_eq])
  funext y
  have hy : y = ix3 (0 : Fin 1) (y 1) (y 2) := by
    funext d; fin_cases d
    · exact Subsingleton.elim (α := Fin 1) _ _
    · rfl
    · rfl
  rw [hy]
  exact h3 f (y 1) (y 2) (by have : (y 1).val < 160 := (y 1).isLt; rw [trips2_eq]; omega)

end After

end Cert.KernelIdeal.Val

end
-- ==== Proof.Block.lean ====
/-
  WHAT ONE BLOCK OF THE KERNEL COMPUTES.

  The values of the three outputs of one grid point as functions of its six input blocks (`outR` the new residual,
  `outC` the codes, `outS` the scales), and the run of the whole kernel body: from the input blocks to exactly these.
-/
module

public import proofs.«01_k».proof.Proof.Loop2
public import proofs.«01_k».proof.Proof.Gen.KernelIdeal.Frame
public import proofs.«01_k».proof.Proof.Gen.KernelIdeal.Launch
public import proofs.«01_k».proof.Proof.Gen.KernelIdeal.Points

@[expose] public section

set_option maxRecDepth 65536
set_option maxHeartbeats 1000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-! ## The values of one block -/

/-- The received group factors as the kernel lays them out in its scratch: per shard and per 32 groups a page with the
    rows first. -/
def stage (x1 : S2x1x160x128.Idx → EReal) (y : S2x5x128x32.Idx) : EReal :=
  x1 (ix4 (y 0) 0 ⟨32 * (y 1).val + (y 3).val, by
    have h1 : (y 1).val < 5 := (y 1).isLt
    have h3 : (y 3).val < 32 := (y 3).isLt
    omega⟩ (y 2))

section Out

variable (x0 : S2x1x128x5120.Idx → EReal) (x1 : S2x1x160x128.Idx → EReal) (x2 : S1x5120.Idx → EReal)
  (x3 : S1x128x5120.Idx → EReal) (x4 : S1x5120.Idx → EReal) (x5 : S32x1024.Idx → EReal)

/-- The new residual of the block. -/
def outR (y : S1x128x5120.Idx) : EReal := resid x0 (stage x1) x2 x3 x5 (y 1) (y 2)

/-- The rows' reciprocal roots. -/
def rsd (y : S128x1.Idx) : EReal :=
  Ideal.rsqrt ((∑ q : Fin 5120, outR x0 x1 x2 x3 x5 (ix3 0 (y 0) q) * outR x0 x1 x2 x3 x5 (ix3 0 (y 0) q))
    * Ideal.ofBits .f32 0x394CCCCD#32 + Ideal.ofBits .f32 0x358637BD#32)

/-- The codes of the block. -/
def outC (y : S1x128x5120.Idx) : EReal := code (outR x0 x1 x2 x3 x5) (rsd x0 x1 x2 x3 x5) x4 x5 (y 1) (y 2)

/-- The scales of the block. -/
def outS (y : S1x160x128.Idx) : EReal := scaleK (gmax (outR x0 x1 x2 x3 x5) (rsd x0 x1 x2 x3 x5) x4 (y 1) (y 2))

end Out

/-! ## The scratch of the factors -/

theorem read_page (arg3 : Memref sig .tc .vmem S2x1x160x128 .f32) (X : BufTy.Contents (Elt Ideal) arg3.view.ty) (d : Nat) (hd : d < 2)
    (r0 : Nat) (inb) (g : Fin 32) (p : Fin 128) (h : r0 + g.val < 160) :
    View.readAt (Elt Ideal) arg3.view (Rect.unit (s := S2x1x160x128) ![d, 0, r0, 0] ![1, 1, 32, 128] inb).toLoadRect X (ix4 0 0 g p)
      = arg3.view.read (Elt Ideal) X (ix4 ⟨d, hd⟩ 0 ⟨r0 + g.val, h⟩ p) := by
  refine readAt_unit _ _ _ rfl _ _ _ _ _ fun a => ?_
  fin_cases a <;> simp [ix4]

/-- A stored page that holds `G` at its place agrees with `G` under its rectangle. -/
theorem store_page (d k : Nat) (hd : d < 2) (hk : k < 5) (inb) (P : S1x1x128x32.Idx → EReal) (G : S2x5x128x32.Idx → EReal)
    (h : ∀ (p : Fin 128) (g : Fin 32), P (ix4 0 0 p g) = G (ix4 ⟨d, hd⟩ ⟨k, hk⟩ p g)) :
    ∀ x : (Rect.unit (s := S2x5x128x32) ![d, k, 0, 0] S1x1x128x32.size inb).shape.Idx,
      P x = G ((Rect.unit (s := S2x5x128x32) ![d, k, 0, 0] S1x1x128x32.size inb).emb x) := by
  intro x
  have hx : x = ix4 (0 : Fin 1) (0 : Fin 1) (x 2) (x 3) := by
    funext a; fin_cases a
    · exact Subsingleton.elim (α := Fin 1) _ _
    · exact Subsingleton.elim (α := Fin 1) _ _
    · rfl
    · rfl
  have he : (Rect.unit (s := S2x5x128x32) ![d, k, 0, 0] S1x1x128x32.size inb).emb x = ix4 ⟨d, hd⟩ ⟨k, hk⟩ (x 2) (x 3) := by
    funext a; apply Fin.ext
    refine (ValueKit.rect_emb_unit_val (s := S2x5x128x32) ![d, k, 0, 0] S1x1x128x32.size inb x a).trans ?_
    have h0 : (x 0).val < 1 := (x 0).isLt
    have h1 : (x 1).val < 1 := (x 1).isLt
    fin_cases a <;> simp [ix4] <;> omega
  rw [he]
  exact (congrArg P hx).trans (h (x 2) (x 3))

theorem mem_page (d k : Nat) (inb) (y : S2x5x128x32.Idx) (hd : (y 0).val = d) (hk : (y 1).val = k) :
    y ∈ (Rect.unit (s := S2x5x128x32) ![d, k, 0, 0] S1x1x128x32.size inb).set := by
  rw [Rect.mem_set_unit]
  have h2 : (y 2).val < 128 := (y 2).isLt
  have h3 : (y 3).val < 32 := (y 3).isLt
  intro a
  fin_cases a
  · simp [hd]
  · simp [hk]
  · exact ⟨Nat.zero_le _, by simpa using h2⟩
  · exact ⟨Nat.zero_le _, by simpa using h3⟩

section Stage
variable (arg3 : Memref sig .tc .vmem S2x1x160x128 .f32) (X : BufTy.Contents (Elt Ideal) arg3.view.ty)

theorem page_1_4 (p : Fin 128) (g : Fin 32) :
    k0_pay67 (View.readAt (Elt Ideal) arg3.view (Rect.unit (s := S2x1x160x128) ![1, 0, 128, 0] S1x1x32x128.size inb_S2x1x160x128_S1x1x32x128_1_0_128_0).toLoadRect X) (ix4 0 0 p g) = stage (arg3.view.read (Elt Ideal) X) (ix4 1 4 p g) := by
  pointwise [k0_pay67]
  exact read_page arg3 X 1 (by omega) 128 inb_S2x1x160x128_S1x1x32x128_1_0_128_0 g p (by omega)

theorem page_1_3 (p : Fin 128) (g : Fin 32) :
    k0_pay66 (View.readAt (Elt Ideal) arg3.view (Rect.unit (s := S2x1x160x128) ![1, 0, 96, 0] S1x1x32x128.size inb_S2x1x160x128_S1x1x32x128_1_0_96_0).toLoadRect X) (ix4 0 0 p g) = stage (arg3.view.read (Elt Ideal) X) (ix4 1 3 p g) := by
  pointwise [k0_pay66]
  exact read_page arg3 X 1 (by omega) 96 inb_S2x1x160x128_S1x1x32x128_1_0_96_0 g p (by omega)

theorem page_1_2 (p : Fin 128) (g : Fin 32) :
    k0_pay65 (k0_pay64 (View.readAt (Elt Ideal) arg3.view (Rect.unit (s := S2x1x160x128) ![1, 0, 64, 0] S1x1x32x128.size inb_S2x1x160x128_S1x1x32x128_1_0_64_0).toLoadRect X)) (ix4 0 0 p g) = stage (arg3.view.read (Elt Ideal) X) (ix4 1 2 p g) := by
  pointwise [k0_pay65, k0_pay64]
  exact read_page arg3 X 1 (by omega) 64 inb_S2x1x160x128_S1x1x32x128_1_0_64_0 g p (by omega)

theorem page_1_1 (p : Fin 128) (g : Fin 32) :
    k0_pay63 (View.readAt (Elt Ideal) arg3.view (Rect.unit (s := S2x1x160x128) ![1, 0, 32, 0] S1x1x32x128.size inb_S2x1x160x128_S1x1x32x128_1_0_32_0).toLoadRect X) (ix4 0 0 p g) = stage (arg3.view.read (Elt Ideal) X) (ix4 1 1 p g) := by
  pointwise [k0_pay63]
  exact read_page arg3 X 1 (by omega) 32 inb_S2x1x160x128_S1x1x32x128_1_0_32_0 g p (by omega)

theorem page_1_0 (p : Fin 128) (g : Fin 32) :
    k0_pay62 (View.readAt (Elt Ideal) arg3.view (Rect.unit (s := S2x1x160x128) ![1, 0, 0, 0] S1x1x32x128.size inb_S2x1x160x128_S1x1x32x128_1_0_0_0).toLoadRect X) (ix4 0 0 p g) = stage (arg3.view.read (Elt Ideal) X) (ix4 1 0 p g) := by
  pointwise [k0_pay62]
  exact read_page arg3 X 1 (by omega) 0 inb_S2x1x160x128_S1x1x32x128_1_0_0_0 g p (by omega)

theorem page_0_4 (p : Fin 128) (g : Fin 32) :
    k0_pay61 (View.readAt (Elt Ideal) arg3.view (Rect.unit (s := S2x1x160x128) ![0, 0, 128, 0] S1x1x32x128.size inb_S2x1x160x128_S1x1x32x128_0_0_128_0).toLoadRect X) (ix4 0 0 p g) = stage (arg3.view.read (Elt Ideal) X) (ix4 0 4 p g) := by
  pointwise [k0_pay61]
  exact read_page arg3 X 0 (by omega) 128 inb_S2x1x160x128_S1x1x32x128_0_0_128_0 g p (by omega)

theorem page_0_3 (p : Fin 128) (g : Fin 32) :
    k0_pay60 (k0_pay59 (View.readAt (Elt Ideal) arg3.view (Rect.unit (s := S2x1x160x128) ![0, 0, 96, 0] S1x1x32x128.size inb_S2x1x160x128_S1x1x32x128_0_0_96_0).toLoadRect X)) (ix4 0 0 p g) = stage (arg3.view.read (Elt Ideal) X) (ix4 0 3 p g) := by
  pointwise [k0_pay60, k0_pay59]
  exact read_page arg3 X 0 (by omega) 96 inb_S2x1x160x128_S1x1x32x128_0_0_96_0 g p (by omega)

theorem page_0_2 (p : Fin 128) (g : Fin 32) :
    k0_pay58 (View.readAt (Elt Ideal) arg3.view (Rect.unit (s := S2x1x160x128) ![0, 0, 64, 0] S1x1x32x128.size inb_S2x1x160x128_S1x1x32x128_0_0_64_0).toLoadRect X) (ix4 0 0 p g) = stage (arg3.view.read (Elt Ideal) X) (ix4 0 2 p g) := by
  pointwise [k0_pay58]
  exact read_page arg3 X 0 (by omega) 64 inb_S2x1x160x128_S1x1x32x128_0_0_64_0 g p (by omega)

theorem page_0_1 (p : Fin 128) (g : Fin 32) :
    k0_pay57 (View.readAt (Elt Ideal) arg3.view (Rect.unit (s := S2x1x160x128) ![0, 0, 32, 0] S1x1x32x128.size inb_S2x1x160x128_S1x1x32x128_0_0_32_0).toLoadRect X) (ix4 0 0 p g) = stage (arg3.view.read (Elt Ideal) X) (ix4 0 1 p g) := by
  pointwise [k0_pay57]
  exact read_page arg3 X 0 (by omega) 32 inb_S2x1x160x128_S1x1x32x128_0_0_32_0 g p (by omega)

theorem page_0_0 (p : Fin 128) (g : Fin 32) :
    k0_pay56 (View.readAt (Elt Ideal) arg3.view (Rect.unit (s := S2x1x160x128) ![0, 0, 0, 0] S1x1x32x128.size inb_S2x1x160x128_S1x1x32x128_0_0_0_0).toLoadRect X) (ix4 0 0 p g) = stage (arg3.view.read (Elt Ideal) X) (ix4 0 0 p g) := by
  pointwise [k0_pay56]
  exact read_page arg3 X 0 (by omega) 0 inb_S2x1x160x128_S1x1x32x128_0_0_0_0 g p (by omega)

/-- The ten pages the kernel stores, last first. -/
def pages : List (View.Piece (Elt Ideal) S2x5x128x32 .bf16) :=
  [⟨Rect.unit ![1, 4, 0, 0] S1x1x128x32.size inb_S2x5x128x32_S1x1x128x32_1_4_0_0, k0_pay67 (View.readAt (Elt Ideal) arg3.view (Rect.unit (s := S2x1x160x128) ![1, 0, 128, 0] S1x1x32x128.size inb_S2x1x160x128_S1x1x32x128_1_0_128_0).toLoadRect X)⟩,
   ⟨Rect.unit ![1, 3, 0, 0] S1x1x128x32.size inb_S2x5x128x32_S1x1x128x32_1_3_0_0, k0_pay66 (View.readAt (Elt Ideal) arg3.view (Rect.unit (s := S2x1x160x128) ![1, 0, 96, 0] S1x1x32x128.size inb_S2x1x160x128_S1x1x32x128_1_0_96_0).toLoadRect X)⟩,
   ⟨Rect.unit ![1, 2, 0, 0] S1x1x128x32.size inb_S2x5x128x32_S1x1x128x32_1_2_0_0, k0_pay65 (k0_pay64 (View.readAt (Elt Ideal) arg3.view (Rect.unit (s := S2x1x160x128) ![1, 0, 64, 0] S1x1x32x128.size inb_S2x1x160x128_S1x1x32x128_1_0_64_0).toLoadRect X))⟩,
   ⟨Rect.unit ![1, 1, 0, 0] S1x1x128x32.size inb_S2x5x128x32_S1x1x128x32_1_1_0_0, k0_pay63 (View.readAt (Elt Ideal) arg3.view (Rect.unit (s := S2x1x160x128) ![1, 0, 32, 0] S1x1x32x128.size inb_S2x1x160x128_S1x1x32x128_1_0_32_0).toLoadRect X)⟩,
   ⟨Rect.unit ![1, 0, 0, 0] S1x1x128x32.size inb_S2x5x128x32_S1x1x128x32_1_0_0_0, k0_pay62 (View.readAt (Elt Ideal) arg3.view (Rect.unit (s := S2x1x160x128) ![1, 0, 0, 0] S1x1x32x128.size inb_S2x1x160x128_S1x1x32x128_1_0_0_0).toLoadRect X)⟩,
   ⟨Rect.unit ![0, 4, 0, 0] S1x1x128x32.size inb_S2x5x128x32_S1x1x128x32_0_4_0_0, k0_pay61 (View.readAt (Elt Ideal) arg3.view (Rect.unit (s := S2x1x160x128) ![0, 0, 128, 0] S1x1x32x128.size inb_S2x1x160x128_S1x1x32x128_0_0_128_0).toLoadRect X)⟩,
   ⟨Rect.unit ![0, 3, 0, 0] S1x1x128x32.size inb_S2x5x128x32_S1x1x128x32_0_3_0_0, k0_pay60 (k0_pay59 (View.readAt (Elt Ideal) arg3.view (Rect.unit (s := S2x1x160x128) ![0, 0, 96, 0] S1x1x32x128.size inb_S2x1x160x128_S1x1x32x128_0_0_96_0).toLoadRect X))⟩,
   ⟨Rect.unit ![0, 2, 0, 0] S1x1x128x32.size inb_S2x5x128x32_S1x1x128x32_0_2_0_0, k0_pay58 (View.readAt (Elt Ideal) arg3.view (Rect.unit (s := S2x1x160x128) ![0, 0, 64, 0] S1x1x32x128.size inb_S2x1x160x128_S1x1x32x128_0_0_64_0).toLoadRect X)⟩,
   ⟨Rect.unit ![0, 1, 0, 0] S1x1x128x32.size inb_S2x5x128x32_S1x1x128x32_0_1_0_0, k0_pay57 (View.readAt (Elt Ideal) arg3.view (Rect.unit (s := S2x1x160x128) ![0, 0, 32, 0] S1x1x32x128.size inb_S2x1x160x128_S1x1x32x128_0_0_32_0).toLoadRect X)⟩,
   ⟨Rect.unit ![0, 0, 0, 0] S1x1x128x32.size inb_S2x5x128x32_S1x1x128x32_0_0_0_0, k0_pay56 (View.readAt (Elt Ideal) arg3.view (Rect.unit (s := S2x1x160x128) ![0, 0, 0, 0] S1x1x32x128.size inb_S2x1x160x128_S1x1x32x128_0_0_0_0).toLoadRect X)⟩]

/-- After the ten stores the scratch holds the factors everywhere. -/
theorem read_stage (arg11 : Memref sig .tc .vmem S2x5x128x32 .bf16) (f : BufTy.Contents (Elt Ideal) arg11.view.ty) :
    arg11.view.read (Elt Ideal) (arg11.view.writes (Elt Ideal) f (pages arg3 X)) = stage (arg3.view.read (Elt Ideal) X) := by
  have hp : ∀ q ∈ pages arg3 X, ∀ x, q.2 x = stage (arg3.view.read (Elt Ideal) X) (q.1.emb x) := by
    unfold pages
    refine List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_cons.2 ⟨?_, List.forall_mem_nil _⟩⟩⟩⟩⟩⟩⟩⟩⟩⟩
    · exact store_page 1 4 (by omega) (by omega) inb_S2x5x128x32_S1x1x128x32_1_4_0_0 _ _ fun p g => page_1_4 arg3 X p g
    · exact store_page 1 3 (by omega) (by omega) inb_S2x5x128x32_S1x1x128x32_1_3_0_0 _ _ fun p g => page_1_3 arg3 X p g
    · exact store_page 1 2 (by omega) (by omega) inb_S2x5x128x32_S1x1x128x32_1_2_0_0 _ _ fun p g => page_1_2 arg3 X p g
    · exact store_page 1 1 (by omega) (by omega) inb_S2x5x128x32_S1x1x128x32_1_1_0_0 _ _ fun p g => page_1_1 arg3 X p g
    · exact store_page 1 0 (by omega) (by omega) inb_S2x5x128x32_S1x1x128x32_1_0_0_0 _ _ fun p g => page_1_0 arg3 X p g
    · exact store_page 0 4 (by omega) (by omega) inb_S2x5x128x32_S1x1x128x32_0_4_0_0 _ _ fun p g => page_0_4 arg3 X p g
    · exact store_page 0 3 (by omega) (by omega) inb_S2x5x128x32_S1x1x128x32_0_3_0_0 _ _ fun p g => page_0_3 arg3 X p g
    · exact store_page 0 2 (by omega) (by omega) inb_S2x5x128x32_S1x1x128x32_0_2_0_0 _ _ fun p g => page_0_2 arg3 X p g
    · exact store_page 0 1 (by omega) (by omega) inb_S2x5x128x32_S1x1x128x32_0_1_0_0 _ _ fun p g => page_0_1 arg3 X p g
    · exact store_page 0 0 (by omega) (by omega) inb_S2x5x128x32_S1x1x128x32_0_0_0_0 _ _ fun p g => page_0_0 arg3 X p g
  funext y
  have h0 : (y 0).val < 2 := (y 0).isLt
  have h1 : (y 1).val < 5 := (y 1).isLt
  have hc : ∃ q ∈ pages arg3 X, y ∈ q.1.set := by
    unfold pages
    rcases (by omega : ((y 0).val = 1 ∧ (y 1).val = 4) ∨ ((y 0).val = 1 ∧ (y 1).val = 3) ∨ ((y 0).val = 1 ∧ (y 1).val = 2) ∨ ((y 0).val = 1 ∧ (y 1).val = 1) ∨ ((y 0).val = 1 ∧ (y 1).val = 0) ∨ ((y 0).val = 0 ∧ (y 1).val = 4) ∨ ((y 0).val = 0 ∧ (y 1).val = 3) ∨ ((y 0).val = 0 ∧ (y 1).val = 2) ∨ ((y 0).val = 0 ∧ (y 1).val = 1) ∨ ((y 0).val = 0 ∧ (y 1).val = 0)) with ⟨h, h'⟩ | ⟨h, h'⟩ | ⟨h, h'⟩ | ⟨h, h'⟩ | ⟨h, h'⟩ | ⟨h, h'⟩ | ⟨h, h'⟩ | ⟨h, h'⟩ | ⟨h, h'⟩ | ⟨h, h'⟩
    · exact ⟨_, List.mem_cons_self, mem_page 1 4 inb_S2x5x128x32_S1x1x128x32_1_4_0_0 y h h'⟩
    · exact ⟨_, List.mem_cons_of_mem _ (List.mem_cons_self), mem_page 1 3 inb_S2x5x128x32_S1x1x128x32_1_3_0_0 y h h'⟩
    · exact ⟨_, List.mem_cons_of_mem _ (List.mem_cons_of_mem _ (List.mem_cons_self)), mem_page 1 2 inb_S2x5x128x32_S1x1x128x32_1_2_0_0 y h h'⟩
    · exact ⟨_, List.mem_cons_of_mem _ (List.mem_cons_of_mem _ (List.mem_cons_of_mem _ (List.mem_cons_self))), mem_page 1 1 inb_S2x5x128x32_S1x1x128x32_1_1_0_0 y h h'⟩
    · exact ⟨_, List.mem_cons_of_mem _ (List.mem_cons_of_mem _ (List.mem_cons_of_mem _ (List.mem_cons_of_mem _ (List.mem_cons_self)))), mem_page 1 0 inb_S2x5x128x32_S1x1x128x32_1_0_0_0 y h h'⟩
    · exact ⟨_, List.mem_cons_of_mem _ (List.mem_cons_of_mem _ (List.mem_cons_of_mem _ (List.mem_cons_of_mem _ (List.mem_cons_of_mem _ (List.mem_cons_self))))), mem_page 0 4 inb_S2x5x128x32_S1x1x128x32_0_4_0_0 y h h'⟩
    · exact ⟨_, List.mem_cons_of_mem _ (List.mem_cons_of_mem _ (List.mem_cons_of_mem _ (List.mem_cons_of_mem _ (List.mem_cons_of_mem _ (List.mem_cons_of_mem _ (List.mem_cons_self)))))), mem_page 0 3 inb_S2x5x128x32_S1x1x128x32_0_3_0_0 y h h'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_page 0 2 inb_S2x5x128x32_S1x1x128x32_0_2_0_0 y h h'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_page 0 1 inb_S2x5x128x32_S1x1x128x32_0_1_0_0 y h h'⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_page 0 0 inb_S2x5x128x32_S1x1x128x32_0_0_0_0 y h h'⟩
  rw [View.read_writes_apply_eq_canon _ _ _ _ hc]
  exact View.canon_apply_of_pieces _ _ hp y hc

end Stage

/-! ## The two loops on the input blocks -/

section Loops

variable (𝒱 : Variants) (c : Dev nD) (bd : Option 𝒱.V) (i : grid0.Coords) (arg2 : Memref sig .tc .vmem S2x1x128x5120 .fp8e4m3) (harg2 : arg2.IsWhole) (arg3 : Memref sig .tc .vmem S2x1x160x128 .f32) (harg3 : arg3.IsWhole) (arg4 : Memref sig .tc .vmem S1x5120 .f32) (harg4 : arg4.IsWhole) (arg5 : Memref sig .tc .vmem S1x128x5120 .bf16) (harg5 : arg5.IsWhole) (arg6 : Memref sig .tc .vmem S1x5120 .f32) (harg6 : arg6.IsWhole) (arg7 : Memref sig .tc .vmem S32x1024 .bf16) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x160x128 .f32) (harg10 : arg10.IsWhole) (arg11 : Memref sig .tc .vmem S2x5x128x32 .bf16) (harg11 : arg11.IsWhole) (arg12 : Memref sig .tc .vmem S128x1024 .f32) (harg12 : arg12.IsWhole)
  (v50 : FVec Ideal S32x128 .f32) (x0 : Vec Ideal S2x1x128x5120 .fp8e4m3) (x1 : Vec Ideal S2x1x160x128 .f32)
  (x2 : Vec Ideal S1x5120 .f32) (x3 : Vec Ideal S1x128x5120 .bf16) (x4 : Vec Ideal S1x5120 .f32) (x5 : Vec Ideal S32x1024 .bf16)
  (X11 : BufTy.Contents (Elt Ideal) arg11.view.ty) (h11 : arg11.view.read (Elt Ideal) X11 = stage x1)

include h11 in
theorem residB_eq : residB arg2 arg4 arg5 arg7 arg11 (harg2.unread x0) (harg4.unread x2) (harg5.unread x3) (harg7.unread x5) X11
    = outR x0 x1 x2 x3 x5 := by
  funext y
  unfold residB outR residOf
  rw [harg2.read_unread, harg4.read_unread, harg5.read_unread, harg7.read_unread, h11]

include h11 in
theorem loop1_resid (f : BufTy.Contents (Elt Ideal) arg8.view.ty) :
    arg8.view.read (Elt Ideal) (arg8.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 v50 (harg2.unread x0) (harg4.unread x2) (harg5.unread x3) (harg7.unread x5) X11 k0_pay68 k0_t1_loop.trips).2)
      = outR x0 x1 x2 x3 x5 := by
  rw [read_resid, residB_eq arg2 harg2 arg4 harg4 arg5 harg5 arg7 harg7 arg11 x0 x1 x2 x3 x5 X11 h11]

include h11 in
theorem loop1_rsd : k0_pay72 (F := Ideal) (st_k0_t1 (F := Ideal) 𝒱 c bd i arg2 harg2 arg3 harg3 arg4 harg4 arg5 harg5 arg6 harg6 arg7 harg7 arg8 harg8 arg9 harg9 arg10 harg10 arg11 harg11 arg12 harg12 v50 (harg2.unread x0) (harg4.unread x2) (harg5.unread x3) (harg7.unread x5) X11 k0_pay68 k0_t1_loop.trips).1 = rsd x0 x1 x2 x3 x5 := by
  funext y
  have hy : y = ix2 (y 0) (0 : Fin 1) := by
    funext d; fin_cases d
    · rfl
    · exact Subsingleton.elim (α := Fin 1) _ _
  rw [hy]
  refine (rstd_after (p := (y 0 : Fin 128)) ..).trans ?_
  unfold rstd rsd
  refine congrArg (fun t => Ideal.rsqrt (t * _ + _)) (Finset.sum_congr rfl fun q _ => ?_)
  have h := congrFun (residB_eq arg2 harg2 arg4 harg4 arg5 harg5 arg7 harg7 arg11 x0 x1 x2 x3 x5 X11 h11) (ix3 0 (y 0) q)
  exact congrArg₂ (· * ·) h h

variable (v79 : FVec Ideal S128x1 .f32) (h79 : v79 = rsd x0 x1 x2 x3 x5) (X8 : BufTy.Contents (Elt Ideal) arg8.view.ty)
  (h8 : arg8.view.read (Elt Ideal) X8 = outR x0 x1 x2 x3 x5) (G9 : BufTy.Contents (Elt Ideal) arg9.view.ty)
  (G10 : BufTy.Contents (Elt Ideal) arg10.view.ty) (G12 : BufTy.Contents (Elt Ideal) arg12.view.ty)

include h79 h8 in
theorem loop2_codes (f : BufTy.Contents (Elt Ideal) arg9.view.ty) :
    arg9.view.read (Elt Ideal) (arg9.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 v79 (harg6.unread x4) (harg7.unread x5) X8 G9 G10 G12 k0_t2_loop.trips).1)
      = outC x0 x1 x2 x3 x4 x5 := by
  rw [read_codes]
  funext y
  unfold codeB outC
  rw [h8, h79, harg6.read_unread, harg7.read_unread]

include h79 h8 in
theorem loop2_scales (f : BufTy.Contents (Elt Ideal) arg10.view.ty) :
    arg10.view.read (Elt Ideal) (arg10.view.writes (Elt Ideal) f (pb_k0_t2 (F := Ideal) 𝒱 c bd i arg2 harg2 arg3 harg3 arg4 harg4 arg5 harg5 arg6 harg6 arg7 harg7 arg8 harg8 arg9 harg9 arg10 harg10 arg11 harg11 arg12 harg12 v79 (harg6.unread x4) (harg7.unread x5) X8 G9 G10 G12 k0_t2_loop.trips).2.1)
      = outS x0 x1 x2 x3 x4 x5 := by
  rw [read_scales]
  funext y
  unfold scaleB outS gmx
  rw [h8, h79, harg6.read_unread]

end Loops

end Cert.KernelIdeal.Val

end
-- ==== Proof.Run.lean ====
/-
  THE RUN OF THE KERNEL BODY.

  From memrefs holding the six input blocks the body ends with the inputs as they were and the three outputs at the
  values of Block.lean.
-/
module

public import proofs.«01_k».proof.Proof.Block
public import proofs.«01_k».proof.Proof.Gen.KernelIdeal.Frame
public import proofs.«01_k».proof.Proof.Gen.KernelIdeal.Launch
public import proofs.«01_k».proof.Proof.Gen.KernelIdeal.Points

@[expose] public section

set_option maxRecDepth 65536
set_option maxHeartbeats 1000000

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

/-- The body, on whole memrefs holding the six input blocks, ends with the inputs as they were and the outputs at `outR`,
    `outC` and `outS`. -/
theorem kernel_run (c : Dev nD) (i : grid0.Coords) (arg2 : Memref sig .tc .vmem S2x1x128x5120 .fp8e4m3) (harg2 : arg2.IsWhole) (arg3 : Memref sig .tc .vmem S2x1x160x128 .f32) (harg3 : arg3.IsWhole) (arg4 : Memref sig .tc .vmem S1x5120 .f32) (harg4 : arg4.IsWhole) (arg5 : Memref sig .tc .vmem S1x128x5120 .bf16) (harg5 : arg5.IsWhole) (arg6 : Memref sig .tc .vmem S1x5120 .f32) (harg6 : arg6.IsWhole) (arg7 : Memref sig .tc .vmem S32x1024 .bf16) (harg7 : arg7.IsWhole) (arg8 : Memref sig .tc .vmem S1x128x5120 .bf16) (harg8 : arg8.IsWhole) (arg9 : Memref sig .tc .vmem S1x128x5120 .fp8e4m3) (harg9 : arg9.IsWhole) (arg10 : Memref sig .tc .vmem S1x160x128 .f32) (harg10 : arg10.IsWhole) (arg11 : Memref sig .tc .vmem S2x5x128x32 .bf16) (harg11 : arg11.IsWhole) (arg12 : Memref sig .tc .vmem S128x1024 .f32) (harg12 : arg12.IsWhole)
    (x0 : Vec Ideal S2x1x128x5120 .fp8e4m3) (x1 : Vec Ideal S2x1x160x128 .f32) (x2 : Vec Ideal S1x5120 .f32) (x3 : Vec Ideal S1x128x5120 .bf16) (x4 : Vec Ideal S1x5120 .f32) (x5 : Vec Ideal S32x1024 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outR x0 x1 x2 x3 x5) ∗ owns (c : Thread nD τ) arg9 fullShare (outC x0 x1 x2 x3 x4 x5) ∗ owns (c : Thread nD τ) arg10 fullShare (outS x0 x1 x2 x3 x4 x5) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_body i arg2 harg2 arg3 harg3 arg4 harg4 arg5 harg5 arg6 harg6 arg7 harg7 arg8 harg8 arg9 harg9 arg10 harg10 arg11 harg11 arg12 harg12) K := by
    intro E K
    simp only [cc0_body_eq_skeleton]; unfold cc0_body_skel
    simp only [k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    have h11 : arg11.view.read (Elt Ideal) (arg11.view.writes (Elt Ideal) arg11.view.junk (kernel_run.sl.HS0_10 c arg3 harg3 x1)) = stage x1 := by
      refine (read_stage arg3 (harg3.unread x1) arg11 _).trans ?_
      rw [harg3.read_unread]
    have h79 : kernel_run.sl.r_2 c i arg2 harg2 arg3 harg3 arg4 harg4 arg5 harg5 arg6 harg6 arg7 harg7 arg8 harg8 arg9 harg9 arg10 harg10 arg11 harg11 arg12 harg12 x0 x1 x2 x3 x5 = rsd x0 x1 x2 x3 x5 := by
      delta kernel_run.sl.r_2
      exact loop1_rsd (x0 := x0) (x1 := x1) (x2 := x2) (x3 := x3) (x5 := x5) (h11 := h11) ..
    have h8 := loop1_resid Variants.none c none i arg2 harg2 arg3 harg3 arg4 harg4 arg5 harg5 arg6 harg6 arg7 harg7 arg8 harg8 arg9 harg9 arg10 harg10 arg11 harg11 arg12 harg12 (kernel_run.sl.r_1 c arg3 harg3 x1) x0 x1 x2 x3 x5
      (arg11.view.writes (Elt Ideal) arg11.view.junk (kernel_run.sl.HS0_10 c arg3 harg3 x1)) h11 f6
    have h9 := loop2_codes Variants.none c none i arg2 harg2 arg3 harg3 arg4 harg4 arg5 harg5 arg6 harg6 arg7 harg7 arg8 harg8 arg9 harg9 arg10 harg10 arg11 harg11 arg12 harg12 x0 x1 x2 x3 x4 x5 _ h79 _ h8 f7 f8 fs1 f7
    have h10 := loop2_scales Variants.none c none i arg2 harg2 arg3 harg3 arg4 harg4 arg5 harg5 arg6 harg6 arg7 harg7 arg8 harg8 arg9 harg9 arg10 harg10 arg11 harg11 arg12 harg12 x0 x1 x2 x3 x4 x5 _ h79 _ h8 f7 f8 fs1 f8
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact h8
    isplitl [H7]
    · iexists _; isplitr; swap; · iexact H7
      ipureintro
      exact h9
    isplitl [H8]
    · iexists _; isplitr; swap; · iexact H8
      ipureintro
      exact h10
    isplitl [HS0]
    · iexists _, _; isplitr; swap; · iexact HS0
      ipureintro; rfl
    iexists _, _; isplitr; swap; · iexact HS1
    ipureintro; rfl

end Cert.KernelIdeal.Val

end
-- ==== Proof.KernelRun.lean ====
/-
  THE RUN OF THE WHOLE KERNEL PROGRAM, OVER THE EXTENDED REALS.

  At every grid point the kernel body turns the six input blocks into the three output blocks of Block.lean; so the
  program terminates, leaves its arguments unchanged and every output array at what these blocks make up.
-/
module

public import proofs.«01_k».proof.Proof.Run
public import Idealize.ShloMosaic.Lib.Claim

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- Each window's current staging memref at point `t`, spelled as the pipeline passes it (`bodyAt0`), and its wholeness. -/
abbrev ms0_0 (t : Fin cfg0.N) : Memref sig .tc .vmem S2x1x128x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2x1x160x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5120 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x5120 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x5120 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S32x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x5120 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x160x128 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S2x5x128x32 .bf16 := Memref.whole cc0_scratch0
abbrev scM0_1 : Memref sig .tc .vmem S128x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data of the one pipeline on core `c`: the arrays as the region finds them (`V`); after the body at
    point `t` each input's buffer at its block and each output's at its value of Block.lean; the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outR (iblk m c 0 t) (iblk m c 1 t) (iblk m c 2 t) (iblk m c 3 t) (iblk m c 5 t)
    | ⟨7, _⟩ => outC (iblk m c 0 t) (iblk m c 1 t) (iblk m c 2 t) (iblk m c 3 t) (iblk m c 4 t) (iblk m c 5 t)
    | ⟨8, _⟩ => outS (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outR (iblk m c 0 t) (iblk m c 1 t) (iblk m c 2 t) (iblk m c 3 t) (iblk m c 5 t) := by dsimp only [dats]
theorem after0_7 (c : Dev nD) (t : Fin cfg0.N) : (dats m 0 c).after 7 t = outC (iblk m c 0 t) (iblk m c 1 t) (iblk m c 2 t) (iblk m c 3 t) (iblk m c 4 t) (iblk m c 5 t) := by dsimp only [dats]
theorem after0_8 (c : Dev nD) (t : Fin cfg0.N) : (dats m 0 c).after 8 t = outS (iblk m c 0 t) (iblk m c 1 t) (iblk m c 2 t) (iblk m c 3 t) (iblk m c 4 t) (iblk m c 5 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernel_run c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [HS0]; · iexact HS0
  isplitl [HS1]; · iexact HS1
  iintro ⟨H0, H1, H2, H3, H4, H5, H6, H7, H8, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch: every array of the pipeline ends at what the proof data make of it, every other buffer at what the host
    operations after the region make of it, and every semaphore counter at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Val

end
-- ==== Proof.Entry.lean ====
module
public import proofs.«01_k».proof.Proof.KernelRun
public import Idealize.ShloMosaic.Lib.Pipeline.ValueKit
@[expose] public section
set_option maxRecDepth 65536
set_option maxHeartbeats 1000000
noncomputable section

/-! The arrays the kernel's blocks are cut from, as its host prefix makes them of the arguments. -/

namespace Cert.KernelIdeal.Val
open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (ρ : Dev nD → PrngReg)

theorem entry_scales (c : Dev nD) (d : Fin 2) (b : Fin 16) (g : Fin 160) (s : Fin 640) :
    V m c main_v0 (ix4 d b g s) = m ((c : Thread nD τ).loc main_arg1) (ix4 d b s g) := by
  simp only [V, V0, hostOps0, hostOps0_1, hostOps0_2, List.flatten_cons, List.flatten_nil, List.append_nil, List.cons_append, List.nil_append]
  entry_read
  pointwise
theorem entry_bias (c : Dev nD) (q : Fin 5120) :
    V m c main_v10 (ix2 0 q) = m ((c : Thread nD τ).loc main_arg2) (ix1 q) := by
  simp only [V, V0, hostOps0, hostOps0_1, hostOps0_2, List.flatten_cons, List.flatten_nil, List.append_nil, List.cons_append, List.nil_append]
  entry_read
  pointwise
theorem entry_gain (c : Dev nD) (q : Fin 5120) :
    V m c main_v11 (ix2 0 q) = m ((c : Thread nD τ).loc main_arg4) (ix1 q) := by
  simp only [V, V0, hostOps0, hostOps0_1, hostOps0_2, List.flatten_cons, List.flatten_nil, List.append_nil, List.cons_append, List.nil_append]
  entry_read
  pointwise
/-- The floor division the host does on words is that of the numbers. -/
theorem floor_div : ∀ l : Fin 1024, Scalar.select
          (IntOp.andi
            (IntOp.cmpi CmpIPredicate.ne
              (if BitVec.ofNat 32 l.val = 0 then (0 : BitVec 32) else if (BitVec.ofNat 32 l.val).msb = true then -1 else 1)
              (if 32#32 = 0 then 0 else if (32#32).msb = true then -1 else 1))
            (IntOp.cmpi CmpIPredicate.ne (IntOp.remsi ArithUnit.host (BitVec.ofNat 32 l.val) 32#32) 0#32))
          (IntOp.subi (IntOp.divsi ArithUnit.host (BitVec.ofNat 32 l.val) 32#32) 1#32)
          (IntOp.divsi ArithUnit.host (BitVec.ofNat 32 l.val) 32#32) = BitVec.ofNat 32 (l.val / 32) := by
  decide +kernel

theorem entry_expand (c : Dev nD) (g : Fin 32) (l : Fin 1024) :
    V m c main_v9 (ix2 g l) = if g.val = l.val / 32 then (1 : EReal) else 0 := by
  simp only [V, V0, hostOps0, hostOps0_1, hostOps0_2, List.flatten_cons, List.flatten_nil, List.append_nil, List.cons_append, List.nil_append]
  entry_read
  simp only [StableHlo.TRef.ofBuf_toBuf]
  simp only [StableHlo.TRef.ofBuf, StableHlo.TRef.toBuf, cast_eq]
  pointwise
  refine (congrArg (fun z => FloatOps.uitofp (F := Ideal) .bf16 (IntOp.cmpi .eq (BitVec.ofNat 32 g.val) z)) (floor_div l)).trans ?_
  by_cases h : g.val = l.val / 32
  · rw [if_pos h, h]
    have e : IntOp.cmpi CmpIPredicate.eq (BitVec.ofNat 32 (l.val / 32)) (BitVec.ofNat 32 (l.val / 32)) = 1#1 := by
      simp [IntOp.cmpi]
    rw [e]
    show (((1#1).toNat : ℝ) : EReal) = 1
    simp
  · rw [if_neg h]
    have e : IntOp.cmpi CmpIPredicate.eq (BitVec.ofNat 32 g.val) (BitVec.ofNat 32 (l.val / 32)) = 0#1 := by
      have hne : BitVec.ofNat 32 g.val ≠ BitVec.ofNat 32 (l.val / 32) := fun hh => h (by
        have := congrArg BitVec.toNat hh
        simp only [BitVec.toNat_ofNat] at this
        omega)
      show BitVec.ofBool (BitVec.ofNat 32 g.val == BitVec.ofNat 32 (l.val / 32)) = 0#1
      rw [beq_eq_false_iff_ne.mpr hne]
      rfl
    rw [e]
    show (((0#1).toNat : ℝ) : EReal) = 0
    simp
end Cert.KernelIdeal.Val
end
-- ==== Proof.Blocks.lean ====
module
public import proofs.«01_k».proof.Proof.Entry
@[expose] public section
set_option maxRecDepth 65536
set_option maxHeartbeats 1000000
noncomputable section

/-! What the kernel's input blocks at a grid point hold, in terms of the arguments. Point `t` has row `t / 5` of the
batch and rows `128 * (t % 5)` onwards of the sequence. -/

namespace Cert.KernelIdeal.Val
open Idealize.ShloMosaic Idealize.ShloMosaic.TcCoe Idealize.ShloMosaic.Tactic
open Idealize.SL Idealize.SL.Sem
open Cert.KernelIdeal Cert.KernelIdeal.Gen

variable (m : (ℓ : Loc nD τ sig) → Buf (Elt Ideal) ℓ) (ρ : Dev nD → PrngReg)

theorem idx : ∀ t : Fin cfg0.N, (win0_0.index t = ![0, t.val / 5, t.val % 5, 0] ∧ win0_1.index t = ![0, t.val / 5, 0, t.val % 5]
    ∧ win0_2.index t = ![0, 0] ∧ win0_3.index t = ![t.val / 5, t.val % 5, 0] ∧ win0_4.index t = ![0, 0] ∧ win0_5.index t = ![0, 0])
    ∧ win0_6.index t = ![t.val / 5, t.val % 5, 0] ∧ win0_7.index t = ![t.val / 5, t.val % 5, 0]
    ∧ win0_8.index t = ![t.val / 5, 0, t.val % 5] ∧ t.val / 5 < 16 := (by decide +kernel : ∀ t : Fin grid0.N, _)

/-- The batch row and the sequence row of row `p` of the block at point `t`. -/
def brow (t : Fin cfg0.N) : Fin 16 := ⟨t.val / 5, (idx t).2.2.2.2⟩
def srow (t : Fin cfg0.N) (p : Fin 128) : Fin 640 := ⟨t.val % 5 * 128 + p.val, by omega⟩

theorem blk0 (c : Dev nD) (t : Fin cfg0.N) (d : Fin 2) (p : Fin 128) (q : Fin 5120) :
    iblk m c 0 t (ix4 d 0 p q : S2x1x128x5120.Idx) = m ((c : Thread nD τ).loc main_arg0) (ix4 d (brow t) (srow t p) q) := by
  blk_ext [iblk, V_main_arg0, idx t, brow, srow]
theorem blk1 (c : Dev nD) (t : Fin cfg0.N) (d : Fin 2) (g : Fin 160) (p : Fin 128) :
    iblk m c 1 t (ix4 d 0 g p : S2x1x160x128.Idx) = m ((c : Thread nD τ).loc main_arg1) (ix4 d (brow t) (srow t p) g) := by
  refine Eq.trans ?_ (entry_scales m c d (brow t) g (srow t p))
  blk_ext [iblk, idx t, brow, srow]
theorem blk2 (c : Dev nD) (t : Fin cfg0.N) (q : Fin 5120) :
    iblk m c 2 t (ix2 0 q : S1x5120.Idx) = m ((c : Thread nD τ).loc main_arg2) (ix1 q) := by
  refine Eq.trans ?_ (entry_bias m c q)
  blk_ext [iblk, idx t]
theorem blk3 (c : Dev nD) (t : Fin cfg0.N) (p : Fin 128) (q : Fin 5120) :
    iblk m c 3 t (ix3 0 p q : S1x128x5120.Idx) = m ((c : Thread nD τ).loc main_arg3) (ix3 (brow t) (srow t p) q) := by
  blk_ext [iblk, V_main_arg3, idx t, brow, srow]
theorem blk4 (c : Dev nD) (t : Fin cfg0.N) (q : Fin 5120) :
    iblk m c 4 t (ix2 0 q : S1x5120.Idx) = m ((c : Thread nD τ).loc main_arg4) (ix1 q) := by
  refine Eq.trans ?_ (entry_gain m c q)
  blk_ext [iblk, idx t]
theorem blk5 (c : Dev nD) (t : Fin cfg0.N) (g : Fin 32) (l : Fin 1024) :
    iblk m c 5 t (ix2 g l : S32x1024.Idx) = if g.val = l.val / 32 then (1 : EReal) else 0 := by
  refine Eq.trans ?_ (entry_expand m c g l)
  blk_ext [iblk, idx t]
end Cert.KernelIdeal.Val
end
-- ==== Proof.Spec.lean ====
module
public import Idealize.ShloMosaic.PureOps.Ideal
public import Idealize.ShloMosaic.Lib.Pointwise
@[expose] public section
noncomputable section

/-! What the operation computes, in plain arithmetic over the extended reals: the reduced hidden row, its RMS norm,
the greatest magnitude of a group of 32, the group's power-of-two scale and the quantised codes. -/

namespace Cert.Spec
open Idealize.ShloMosaic Idealize.ShloMosaic.TcCoe

/-- The packed partial sums, their group scales, the bias (or gain) row and the residual, as arrays of numbers. -/
abbrev Parts := Shape.Idx ⟨4, ![2, 16, 640, 5120]⟩ → EReal
abbrev Scales := Shape.Idx ⟨4, ![2, 16, 640, 160]⟩ → EReal
abbrev Row := Shape.Idx ⟨1, ![5120]⟩ → EReal
abbrev Hidden := Shape.Idx ⟨3, ![16, 640, 5120]⟩ → EReal

variable (pk : Parts) (ps : Scales) (bi : Row) (x : Hidden) (ga : Row)

/-- The new residual: the two dequantised partials added, with the bias and the old residual. -/
def hid (b : Fin 16) (s : Fin 640) (q : Fin 5120) : EReal :=
  (∑ d : Fin 2, pk (ix4 d b s q) * ps (ix4 d b s ⟨q.val / 32, by omega⟩)) + bi (ix1 q) + x (ix3 b s q)

/-- The inverse root mean square of a row of the new residual. -/
def rms (b : Fin 16) (s : Fin 640) : EReal :=
  Ideal.rsqrt ((∑ q : Fin 5120, hid pk ps bi x b s q * hid pk ps bi x b s q) * Ideal.ofBits .f32 0x394CCCCD#32
    + Ideal.ofBits .f32 0x358637BD#32)

/-- The normalised row. -/
def nrm (b : Fin 16) (s : Fin 640) (q : Fin 5120) : EReal :=
  hid pk ps bi x b s q * rms pk ps bi x b s * ga (ix1 q)

/-- The greatest magnitude in group `g` of 32 lanes of the normalised row. -/
def top (b : Fin 16) (s : Fin 640) (g : Fin 160) : EReal :=
  Finset.fold max (Ideal.ofBits .f32 0xFF800000#32)
    (fun e : Fin 32 => FloatOps.absf (F := Ideal) (φ := .f32) (nrm pk ps bi x ga b s ⟨32 * g.val + e.val, by omega⟩)) Finset.univ

/-- The number a group's scale is chosen from: its greatest magnitude, a little reduced. -/
def amax (b : Fin 16) (s : Fin 640) (g : Fin 160) : EReal :=
  top pk ps bi x ga b s g * Ideal.ofBits .f32 0x3F7F6DB8#32

/-- The exponent of the scale of a group of greatest magnitude `a`: that of the least power of two above `a / 448`, at
    most 120. -/
def expo (a : EReal) : EReal :=
  min (Ideal.liftRound Int.floor (Ideal.div (Ideal.log (Ideal.div a (Ideal.ofBits .f32 0x43E00000#32)))
    (Ideal.log (Ideal.ofBits .f32 0x40000000#32))) + Ideal.ofBits .f32 0x3F800000#32) (Ideal.ofBits .f32 0x42F00000#32)

/-- Whether a group is too small to be scaled. -/
def tiny (a : EReal) : Prop := Ideal.div a (Ideal.ofBits .f32 0x43E00000#32) < Ideal.ofBits .f32 0x00800000#32

open Classical in
/-- The scale of a group of greatest magnitude `a`. -/
def scale (a : EReal) : EReal := if tiny a then 1 else Ideal.exp2 (expo a)

open Classical in
/-- The factor that takes a group of greatest magnitude `a` to its codes: the inverse of its scale. -/
def inv (a : EReal) : EReal := if tiny a then 1 else Ideal.exp2 (0 - expo a)

/-- The code of a lane: the normalised number over its group's scale, clipped to the format's range. -/
def codeAt (b : Fin 16) (s : Fin 640) (q : Fin 5120) : EReal :=
  min (Ideal.ofBits .f32 0x43E00000#32) (max (Ideal.ofBits .f32 0xC3E00000#32)
    (nrm pk ps bi x ga b s q * inv (amax pk ps bi x ga b s ⟨q.val / 32, by omega⟩)))

/-- The scale of a group. -/
def scaleAt (b : Fin 16) (s : Fin 640) (g : Fin 160) : EReal := scale (amax pk ps bi x ga b s g)

/-- The three result arrays. -/
def hidden : Hidden := fun j => hid pk ps bi x (j 0) (j 1) (j 2)
def codes : Hidden := fun j => codeAt pk ps bi x ga (j 0) (j 1) (j 2)
def scales : Shape.Idx ⟨3, ![16, 640, 160]⟩ → EReal := fun j => scaleAt pk ps bi x ga (j 0) (j 1) (j 2)

end Cert.Spec
end
-- ==== Proof.Scale.lean ====
module
public import proofs.«01_k».proof.Proof.Loop2
public import proofs.«01_k».proof.Proof.Spec
@[expose] public section
set_option maxRecDepth 16384
noncomputable section

/-! The kernel finds a group's scale by searching, bit by bit, the greatest number whose float boundary is not above the
group's greatest magnitude; the reference takes a logarithm. Both give the same power of two: the boundary of number
`c` is `448 * 2 ^ (c - 136)`, so the number is the exponent the logarithm gives, shifted. -/

namespace Cert.KernelIdeal.Val
open Idealize.ShloMosaic Idealize.ShloMosaic.TcCoe Idealize.ShloMosaic.Tactic
open Cert

/-! ## Words as powers of two -/

/-- A pattern with sign 0, exponent field `ex` (neither 0 nor 255) and fraction `fr`. -/
theorem ofBits_normal (b : BitVec 32) (ex fr : Nat) (h : b.toNat = ex * 2 ^ 23 + fr) (hfr : fr < 2 ^ 23) (h0 : 0 < ex) (h1 : ex < 255) :
    Ideal.ofBits .f32 b = ((((2 ^ 23 + fr : Nat) : ℝ) * (2 : ℝ) ^ ((ex : ℤ) - 150) : ℝ) : EReal) := by
  have e1 : (b.extractLsb' 23 8).toNat = ex := by
    rw [BitVec.extractLsb'_toNat, h, Nat.shiftRight_eq_div_pow]
    omega
  have e2 : (b.extractLsb' 0 23).toNat = fr := by
    rw [BitVec.extractLsb'_toNat, h, Nat.shiftRight_eq_div_pow]
    omega
  have e3 : (b.extractLsb' (8 + 23) 1 == 1#1) = false := by
    rw [beq_eq_false_iff_ne]
    intro hh
    have := congrArg BitVec.toNat hh
    rw [BitVec.extractLsb'_toNat, h, Nat.shiftRight_eq_div_pow] at this
    simp at this
    omega
  show Ideal.ieee 8 23 b = _
  unfold Ideal.ieee
  simp only [e1, e2, e3]
  rw [if_neg (by omega), if_neg (by omega)]
  congr 1
  have : ((ex : ℤ) - (2 ^ (8 - 1) - 1) - (23 : ℕ)) = (ex : ℤ) - 150 := by norm_num; ring
  rw [this]
  simp

/-- The boundary of number `c`. -/
def bound (c : Nat) : EReal :=
  Ideal.ofBits .f32 (IntOp.subi (IntOp.shli .vector (BitVec.ofNat 32 c) 23#32) 2097152#32)

theorem bound_word : ∀ c : Fin 256, 2 ≤ c.val →
    (IntOp.subi (IntOp.shli .vector (BitVec.ofNat 32 c.val) 23#32) 2097152#32).toNat = (c.val - 1) * 2 ^ 23 + 6291456 := by
  decide +kernel

theorem bound_eq (c : Nat) (h2 : 2 ≤ c) (h : c < 256) : bound c = ((448 * (2 : ℝ) ^ ((c : ℤ) - 136) : ℝ) : EReal) := by
  unfold bound
  rw [ofBits_normal _ (c - 1) 6291456 (bound_word ⟨c, h⟩ h2) (by norm_num) (by omega) (by omega)]
  congr 1
  have e : (((c - 1 : ℕ) : ℤ) - 150) = ((c : ℤ) - 136) + (-15) := by omega
  rw [e, zpow_add₀ (by norm_num : (2 : ℝ) ≠ 0)]
  norm_num
  ring

/-- The least boundary is a small positive number. -/
theorem bound_one : bound 1 = ((3 * (2 : ℝ) ^ (-128 : ℤ) : ℝ) : EReal) := by
  have e : IntOp.subi (IntOp.shli .vector (BitVec.ofNat 32 1) 23#32) 2097152#32 = 0x00600000#32 := by decide +kernel
  unfold bound
  rw [e]
  simp [Ideal.ofBits, Ideal.ieee, -EReal.coe_mul]
  norm_num

theorem pow_word : ∀ n : Fin 256, (IntOp.shli .vector (BitVec.ofNat 32 n.val) 23#32).toNat = n.val * 2 ^ 23 + 0 := by
  decide +kernel

/-- An exponent field on its own is a power of two. -/
theorem ofBits_pow (n : Nat) (h0 : 0 < n) (h1 : n < 255) :
    Ideal.ofBits .f32 (IntOp.shli .vector (BitVec.ofNat 32 n) 23#32) = (((2 : ℝ) ^ ((n : ℤ) - 127) : ℝ) : EReal) := by
  rw [ofBits_normal _ n 0 (pow_word ⟨n, by omega⟩) (by norm_num) h0 h1]
  congr 1
  have e : ((n : ℤ) - 150) = ((n : ℤ) - 127) + (-23) := by omega
  rw [e, zpow_add₀ (by norm_num : (2 : ℝ) ≠ 0)]
  norm_num
  ring

theorem ofBits_448 : Ideal.ofBits .f32 0x43E00000#32 = ((448 : ℝ) : EReal) := by
  rw [ofBits_normal _ 135 6291456 (by decide) (by norm_num) (by norm_num) (by norm_num)]
  congr 1; norm_num
theorem ofBits_two : Ideal.ofBits .f32 0x40000000#32 = ((2 : ℝ) : EReal) := by
  rw [ofBits_normal _ 128 0 (by decide) (by norm_num) (by norm_num) (by norm_num)]
  congr 1; norm_num
theorem ofBits_120 : Ideal.ofBits .f32 0x42F00000#32 = ((120 : ℝ) : EReal) := by
  rw [ofBits_normal _ 133 7340032 (by decide) (by norm_num) (by norm_num) (by norm_num)]
  congr 1; norm_num
theorem ofBits_tiny : Ideal.ofBits .f32 0x00800000#32 = (((2 : ℝ) ^ (-126 : ℤ) : ℝ) : EReal) := by
  rw [ofBits_normal _ 1 0 (by decide) (by norm_num) (by norm_num) (by norm_num)]
  congr 1; norm_num
theorem ofBits_one : Ideal.ofBits .f32 0x3F800000#32 = ((1 : ℝ) : EReal) := by
  rw [ofBits_normal _ 127 0 (by decide) (by norm_num) (by norm_num) (by norm_num)]
  congr 1; norm_num

/-! ## The search -/

/-- Where the search stands: at `c`, with `w` numbers from `c` on left to tell apart. -/
def At (a : EReal) (c w : Nat) : Prop :=
  c % w = 0 ∧ c + w ≤ 256 ∧ (c = 0 ∨ bound c ≤ a) ∧ (c + w = 256 ∨ a < bound (c + w))

theorem probe_step (a : EReal) (b : Nat) (hb : 0 < b)
    (hor : ∀ c : Fin 256, c.val % (2 * b) = 0 → IntOp.ori (BitVec.ofNat 32 c.val) (BitVec.ofNat 32 b) = BitVec.ofNat 32 (c.val + b))
    (cur : BitVec 32) (h : ∃ c, cur = BitVec.ofNat 32 c ∧ At a c (2 * b)) :
    ∃ c, probe a cur (BitVec.ofNat 32 b) = BitVec.ofNat 32 c ∧ At a c b := by
  obtain ⟨c, rfl, hm, hl, hlo, hhi⟩ := h
  unfold probe
  rw [hor ⟨c, by omega⟩ hm]
  have hmb : c % b = 0 := Nat.mod_eq_zero_of_dvd ((Dvd.intro_left 2 rfl).trans (Nat.dvd_of_mod_eq_zero hm))
  by_cases ha : a < bound (c + b)
  · exact ⟨c, if_pos ha, hmb, by omega, hlo, .inr ha⟩
  · refine ⟨c + b, if_neg ha, ?_, by omega, .inr (not_lt.mp ha), ?_⟩
    · rw [Nat.add_mod_right]; exact hmb
    · rw [show c + b + b = c + 2 * b by omega]; exact hhi

theorem bindex_at (a : EReal) : ∃ c, bindex a = BitVec.ofNat 32 c ∧ At a c 1 := by
  unfold bindex
  refine probe_step a 1 (by norm_num) (by decide +kernel) _ ?_
  refine probe_step a 2 (by norm_num) (by decide +kernel) _ ?_
  refine probe_step a 4 (by norm_num) (by decide +kernel) _ ?_
  refine probe_step a 8 (by norm_num) (by decide +kernel) _ ?_
  refine probe_step a 16 (by norm_num) (by decide +kernel) _ ?_
  refine probe_step a 32 (by norm_num) (by decide +kernel) _ ?_
  refine probe_step a 64 (by norm_num) (by decide +kernel) _ ?_
  refine probe_step a 128 (by norm_num) (by decide +kernel) _ ?_
  exact ⟨0, rfl, by norm_num, by norm_num, .inl rfl, .inl rfl⟩

theorem sge_ten : ∀ c : Fin 256, IntOp.cmpi .sge (BitVec.ofNat 32 c.val) 10#32 = if 10 ≤ c.val then 1#1 else 0#1 := by
  decide +kernel

theorem scale_word : ∀ c : Fin 256, 10 ≤ c.val → IntOp.subi (BitVec.ofNat 32 c.val) 8#32 = BitVec.ofNat 32 (c.val - 8)
    ∧ IntOp.subi 262#32 (BitVec.ofNat 32 c.val) = BitVec.ofNat 32 (262 - c.val) := by
  decide +kernel

/-! ## The scale -/

theorem div_448 (r : ℝ) : Ideal.div (r : EReal) ((448 : ℝ) : EReal) = ((r / 448 : ℝ) : EReal) := by
  unfold Ideal.div
  rw [if_neg (by exact_mod_cast (by norm_num : (448 : ℝ) ≠ 0)), ← EReal.coe_inv, ← EReal.coe_mul, div_eq_mul_inv]

theorem div_448_top : Ideal.div ⊤ ((448 : ℝ) : EReal) = ⊤ := by
  unfold Ideal.div
  rw [if_neg (by exact_mod_cast (by norm_num : (448 : ℝ) ≠ 0)), ← EReal.coe_inv]
  exact EReal.top_mul_coe_of_pos (by norm_num)

theorem div_448_bot : Ideal.div ⊥ ((448 : ℝ) : EReal) = ⊥ := by
  unfold Ideal.div
  rw [if_neg (by exact_mod_cast (by norm_num : (448 : ℝ) ≠ 0)), ← EReal.coe_inv]
  exact EReal.bot_mul_coe_of_pos (by norm_num)

/-- Below the tenth boundary a group is too small. -/
theorem tiny_of_lt (a : EReal) (h : a < bound 10) : Spec.tiny a := by
  rw [bound_eq 10 (by norm_num) (by norm_num)] at h
  unfold Spec.tiny
  rw [ofBits_448, ofBits_tiny]
  induction a with
  | bot => rw [div_448_bot]; exact EReal.bot_lt_coe _
  | top => exact absurd h (not_lt.mpr le_top)
  | coe r =>
    rw [div_448]
    have h' : r < 448 * (2 : ℝ) ^ ((10 : ℕ) - 136 : ℤ) := EReal.coe_lt_coe_iff.mp h
    refine EReal.coe_lt_coe_iff.mpr ?_
    rw [div_lt_iff₀ (by norm_num)]
    norm_num at h' ⊢
    linarith

/-- At or above it, it is not. -/
theorem not_tiny_of_le (a : EReal) (h : bound 10 ≤ a) : ¬Spec.tiny a := by
  rw [bound_eq 10 (by norm_num) (by norm_num)] at h
  unfold Spec.tiny
  rw [ofBits_448, ofBits_tiny]
  induction a with
  | bot => exact absurd h (not_le.mpr (EReal.bot_lt_coe _))
  | top => rw [div_448_top]; exact not_lt.mpr le_top
  | coe r =>
    rw [div_448]
    have h' : 448 * (2 : ℝ) ^ ((10 : ℕ) - 136 : ℤ) ≤ r := EReal.coe_le_coe_iff.mp h
    refine not_lt.mpr (EReal.coe_le_coe_iff.mpr ?_)
    rw [le_div_iff₀ (by norm_num)]
    norm_num at h' ⊢
    linarith

theorem bound_mono {c d : Nat} (h1 : 1 ≤ c) (h : c ≤ d) (hd : d < 256) : bound c ≤ bound d := by
  rcases Nat.lt_or_ge c 2 with h2 | h2
  · obtain rfl : c = 1 := by omega
    rcases Nat.lt_or_ge d 2 with h3 | h3
    · obtain rfl : d = 1 := by omega
      exact le_rfl
    · rw [bound_one, bound_eq d h3 hd]
      refine EReal.coe_le_coe_iff.mpr ?_
      have : (2 : ℝ) ^ (-134 : ℤ) ≤ (2 : ℝ) ^ ((d : ℤ) - 136) := zpow_le_zpow_right₀ (by norm_num) (by omega)
      have e : (2 : ℝ) ^ (-128 : ℤ) = 64 * (2 : ℝ) ^ (-134 : ℤ) := by norm_num
      have e0 : (0 : ℝ) ≤ (2 : ℝ) ^ (-134 : ℤ) := by positivity
      rw [e]; nlinarith
  · rw [bound_eq c h2 (by omega), bound_eq d (by omega) hd]
    refine EReal.coe_le_coe_iff.mpr ?_
    have : (2 : ℝ) ^ ((c : ℤ) - 136) ≤ (2 : ℝ) ^ ((d : ℤ) - 136) := zpow_le_zpow_right₀ (by norm_num) (by omega)
    linarith

theorem log_two : Ideal.log ((2 : ℝ) : EReal) = ((Real.log 2 : ℝ) : EReal) := by
  show (if (2 : ℝ) ≤ 0 then (⊥ : EReal) else (Real.log 2 : EReal)) = _
  rw [if_neg (by norm_num)]

/-- The floor of the binary logarithm of a number between two powers of two. -/
theorem floor_log (q : ℝ) (k : ℤ) (h : (2 : ℝ) ^ k ≤ q) : k ≤ ⌊Real.log q / Real.log 2⌋ := by
  have hq : 0 < q := lt_of_lt_of_le (by positivity) h
  have hl : 0 < Real.log 2 := Real.log_pos (by norm_num)
  rw [Int.le_floor, le_div_iff₀ hl, ← Real.log_zpow]
  exact Real.log_le_log (by positivity) h

theorem floor_log_lt (q : ℝ) (k : ℤ) (hq : 0 < q) (h : q < (2 : ℝ) ^ (k + 1)) : ⌊Real.log q / Real.log 2⌋ ≤ k := by
  have hl : 0 < Real.log 2 := Real.log_pos (by norm_num)
  rw [← Int.lt_add_one_iff, Int.floor_lt, div_lt_iff₀ hl, ← Real.log_zpow]
  exact Real.log_lt_log hq h

/-- The exponent the reference takes is the number the search finds, shifted. -/
theorem expo_eq (a : EReal) (c : Nat) (h10 : 10 ≤ c) (hc : At a c 1) : Spec.expo a = (((c : ℝ) - 135 : ℝ) : EReal) := by
  obtain ⟨_, hl, hlo, hhi⟩ := hc
  have hlo : bound c ≤ a := hlo.resolve_left (by omega)
  rw [bound_eq c (by omega) (by omega)] at hlo
  unfold Spec.expo
  rw [ofBits_448, ofBits_two, ofBits_one, ofBits_120, log_two]
  have hl2 : 0 < Real.log 2 := Real.log_pos (by norm_num)
  have hd : ∀ y : EReal, Ideal.div y ((Real.log 2 : ℝ) : EReal) = y * (((Real.log 2)⁻¹ : ℝ) : EReal) := fun y => by
    unfold Ideal.div
    rw [if_neg (by exact_mod_cast hl2.ne'), ← EReal.coe_inv]
  induction a with
  | bot => exact absurd hlo (not_le.mpr (EReal.bot_lt_coe _))
  | top =>
    have hc255 : c + 1 = 256 := hhi.resolve_right (by rw [not_lt]; exact le_top)
    rw [div_448_top, show Ideal.log ⊤ = ⊤ from rfl, hd, EReal.top_mul_coe_of_pos (inv_pos.mpr hl2)]
    show min ((⊤ : EReal) + ((1 : ℝ) : EReal)) _ = _
    rw [EReal.top_add_coe, min_eq_right le_top]
    obtain rfl : c = 255 := by omega
    norm_num
  | coe r =>
    have hlo : 448 * (2 : ℝ) ^ ((c : ℤ) - 136) ≤ r := EReal.coe_le_coe_iff.mp hlo
    have hq : (2 : ℝ) ^ ((c : ℤ) - 136) ≤ r / 448 := by rw [le_div_iff₀ (by norm_num)]; linarith
    have hq0 : 0 < r / 448 := lt_of_lt_of_le (by positivity) hq
    have hlog : Ideal.log ((r / 448 : ℝ) : EReal) = ((Real.log (r / 448) : ℝ) : EReal) := by
      show (if (r / 448 : ℝ) ≤ 0 then (⊥ : EReal) else (Real.log (r / 448) : EReal)) = _
      rw [if_neg (not_le.mpr hq0)]
    rw [div_448, hlog, hd, ← EReal.coe_mul, ← div_eq_mul_inv]
    show min ((((⌊Real.log (r / 448) / Real.log 2⌋ : ℤ) : ℝ) : EReal) + ((1 : ℝ) : EReal)) _ = _
    rw [← EReal.coe_add]
    have hf := floor_log _ _ hq
    rcases Nat.lt_or_ge (c + 1) 256 with h | h
    rotate_left
    · obtain rfl : c = 255 := by omega
      rw [min_eq_right]
      · norm_num
      · refine EReal.coe_le_coe_iff.mpr ?_
        have : ((119 : ℤ) : ℝ) ≤ ((⌊Real.log (r / 448) / Real.log 2⌋ : ℤ) : ℝ) := by exact_mod_cast hf
        push_cast at this
        linarith
    · have hhi := hhi.resolve_left (by omega)
      rw [bound_eq (c + 1) (by omega) h] at hhi
      have hhi : r < 448 * (2 : ℝ) ^ (((c + 1 : ℕ) : ℤ) - 136) := EReal.coe_lt_coe_iff.mp hhi
      have hg : ⌊Real.log (r / 448) / Real.log 2⌋ ≤ (c : ℤ) - 136 := by
        refine floor_log_lt _ _ hq0 ?_
        rw [div_lt_iff₀ (by norm_num), show ((c : ℤ) - 136 + 1) = ((c + 1 : ℕ) : ℤ) - 136 by push_cast; ring]
        linarith
      have he : ⌊Real.log (r / 448) / Real.log 2⌋ = (c : ℤ) - 136 := le_antisymm hg hf
      rw [he, min_eq_left]
      · congr 1; push_cast; ring
      · refine EReal.coe_le_coe_iff.mpr ?_
        have : (c : ℝ) ≤ 255 := by exact_mod_cast (by omega : c ≤ 255)
        push_cast; linarith

theorem exp2_int (k : ℤ) : Ideal.exp2 (((k : ℝ) : ℝ) : EReal) = (((2 : ℝ) ^ k : ℝ) : EReal) := by
  show ((Real.rpow 2 (k : ℝ) : ℝ) : EReal) = _
  congr 1
  exact Real.rpow_intCast 2 k

/-- The kernel's scale is the reference's. -/
theorem scaleK_eq (a : EReal) : scaleK a = Spec.scale a := by
  obtain ⟨c, hb, hc⟩ := bindex_at a
  have hl : c < 256 := by have := hc.2.1; omega
  unfold scaleK Spec.scale
  rw [hb, sge_ten ⟨c, hl⟩]
  by_cases h : 10 ≤ c
  · rw [if_pos h, (scale_word ⟨c, hl⟩ h).1, if_neg (not_tiny_of_le a ((bound_mono (by norm_num) h hl).trans (hc.2.2.1.resolve_left (by omega)))),
      expo_eq a c h hc, show ((c : ℝ) - 135) = (((c : ℤ) - 135 : ℤ) : ℝ) by push_cast; ring, exp2_int]
    refine (show Scalar.select 1#1 _ _ = _ from rfl).trans ((ofBits_pow (c - 8) (by omega) (by omega)).trans ?_)
    congr 2
    omega
  · rw [if_neg h, if_pos (tiny_of_lt a ((hc.2.2.2.resolve_left (by omega)).trans_le (bound_mono (by omega) (by omega) (by norm_num))))]
    rfl

/-- The kernel's inverse scale is the reference's. -/
theorem invK_eq (a : EReal) : invK a = Spec.inv a := by
  obtain ⟨c, hb, hc⟩ := bindex_at a
  have hl : c < 256 := by have := hc.2.1; omega
  unfold invK Spec.inv
  rw [hb, sge_ten ⟨c, hl⟩]
  by_cases h : 10 ≤ c
  · rw [if_pos h, (scale_word ⟨c, hl⟩ h).2, if_neg (not_tiny_of_le a ((bound_mono (by norm_num) h hl).trans (hc.2.2.1.resolve_left (by omega)))),
      expo_eq a c h hc, zero_sub, ← EReal.coe_neg, show (-((c : ℝ) - 135)) = ((135 - (c : ℤ) : ℤ) : ℝ) by push_cast; ring, exp2_int]
    refine (show Scalar.select 1#1 _ _ = _ from rfl).trans ((ofBits_pow (262 - c) (by omega) (by omega)).trans ?_)
    congr 2
    omega
  · rw [if_neg h, if_pos (tiny_of_lt a ((hc.2.2.2.resolve_left (by omega)).trans_le (bound_mono (by omega) (by omega) (by norm_num))))]
    rfl

/-! ## The greatest magnitude -/

/-- The factor the greatest magnitude is reduced by is positive. -/
theorem cls_pos : ∃ k : ℝ, 0 < k ∧ Ideal.ofBits .f32 0x3F7F6DB8#32 = ((k : ℝ) : EReal) := by
  rw [ofBits_normal _ 126 8351160 (by decide) (by norm_num) (by norm_num) (by norm_num)]
  exact ⟨_, by positivity, rfl⟩

theorem ofBits_bot_f32 : Ideal.ofBits .f32 0xFF800000#32 = ⊥ := by simp [Ideal.ofBits, Ideal.ieee]
theorem ofBits_bot_bf16 : Ideal.ofBits .bf16 0xFF80#16 = ⊥ := by simp [Ideal.ofBits, Ideal.ieee]

/-- A positive factor may be taken out of a greatest magnitude. -/
theorem max_scaled (f : Fin 32 → EReal) :
    Finset.fold max (Ideal.ofBits .bf16 0xFF80#16) (fun x => FloatOps.absf (F := Ideal) (φ := .bf16) (f x * Ideal.ofBits .f32 0x3F7F6DB8#32)) Finset.univ
      = Finset.fold max (Ideal.ofBits .f32 0xFF800000#32) (fun x => FloatOps.absf (F := Ideal) (φ := .f32) (f x)) Finset.univ
        * Ideal.ofBits .f32 0x3F7F6DB8#32 := by
  obtain ⟨k, hk, e⟩ := cls_pos
  rw [e, ofBits_bot_f32, ofBits_bot_bf16]
  have hk' : (0 : EReal) ≤ (k : EReal) := EReal.coe_nonneg.mpr hk.le
  have hm : Monotone fun x : EReal => x * (k : EReal) := fun x y h => mul_le_mul_of_nonneg_right h hk'
  have hmax : ∀ x y : EReal, max x y * (k : EReal) = max (x * (k : EReal)) (y * (k : EReal)) := fun x y => hm.map_max
  have hf : (fun x => FloatOps.absf (F := Ideal) (φ := .bf16) (f x * (k : EReal)))
      = fun x => FloatOps.absf (F := Ideal) (φ := .f32) (f x) * (k : EReal) := by
    funext x
    show max (f x * (k : EReal)) (-(f x * (k : EReal))) = max (f x) (-f x) * (k : EReal)
    rw [hmax, EReal.neg_mul]
  rw [hf]
  conv_lhs => rw [← EReal.bot_mul_coe_of_pos hk]
  exact Finset.fold_hom (op := max) (op' := max) (m := fun x : EReal => x * (k : EReal)) hmax

end Cert.KernelIdeal.Val
end
-- ==== Proof.Equation.lean ====
module
public import proofs.«01_k».proof.Proof.Block
public import proofs.«01_k».proof.Proof.Scale
@[expose] public section
set_option maxRecDepth 16384
noncomputable section

/-! The equation of one block: over the ideal numbers, what the kernel's body makes of a block of 128 rows is the
specification's arithmetic of those rows. The expansion matrix has a single 1 in each column, so a product with it
picks a group's factor. -/

namespace Cert.KernelIdeal.Val
open Idealize.ShloMosaic Idealize.ShloMosaic.TcCoe Idealize.ShloMosaic.Tactic
open Cert Cert.KernelIdeal Cert.KernelIdeal.Gen

/-- A sum against a row with a single 1 is the element the 1 stands at. -/
theorem sum_pick (f : Fin 32 → EReal) (k : Nat) (hk : k < 32) :
    ∑ g : Fin 32, f g * (if g.val = k then (1 : EReal) else 0) = f ⟨k, hk⟩ := by
  rw [Finset.sum_eq_single (⟨k, hk⟩ : Fin 32)]
  · simp
  · intro g _ hg
    rw [if_neg (fun h => hg (Fin.ext h)), mul_zero]
  · intro h
    exact absurd (Finset.mem_univ _) h

section Equation

variable (A0 : Spec.Parts) (A1 : Spec.Scales) (A2 : Spec.Row) (A3 : Spec.Hidden) (A4 : Spec.Row) (b : Fin 16) (s : Fin 128 → Fin 640)
  (x0 : S2x1x128x5120.Idx → EReal) (x1 : S2x1x160x128.Idx → EReal) (x2 : S1x5120.Idx → EReal)
  (x3 : S1x128x5120.Idx → EReal) (x4 : S1x5120.Idx → EReal) (x5 : S32x1024.Idx → EReal)
  (h0 : ∀ d p q, x0 (ix4 d 0 p q) = A0 (ix4 d b (s p) q)) (h1 : ∀ d g p, x1 (ix4 d 0 g p) = A1 (ix4 d b (s p) g))
  (h2 : ∀ q, x2 (ix2 0 q) = A2 (ix1 q)) (h3 : ∀ p q, x3 (ix3 0 p q) = A3 (ix3 b (s p) q))
  (h4 : ∀ q, x4 (ix2 0 q) = A4 (ix1 q)) (h5 : ∀ (g : Fin 32) (l : Fin 1024), x5 (ix2 g l) = if g.val = l.val / 32 then (1 : EReal) else 0)

include h1 h5 in
/-- A shard's factor at a column is the scale of the column's group. -/
theorem factor_eq (d : Fin 2) (p : Fin 128) (q : Fin 5120) :
    factor (stage x1) x5 d p q = A1 (ix4 d b (s p) ⟨q.val / 32, by omega⟩) := by
  unfold factor
  simp only [h5]
  rw [sum_pick _ (q.val % 1024 / 32) (by omega)]
  refine (h1 d ⟨32 * (q.val / 1024) + q.val % 1024 / 32, by omega⟩ p).trans ?_
  exact congrArg (fun g => A1 (ix4 d b (s p) g)) (Fin.ext (by show 32 * (q.val / 1024) + q.val % 1024 / 32 = q.val / 32; omega))

include h0 h1 h2 h3 h5 in
/-- The block's new residual. -/
theorem outR_eq (p : Fin 128) (q : Fin 5120) : outR x0 (x1) x2 x3 x5 (ix3 0 p q) = Spec.hid A0 A1 A2 A3 b (s p) q := by
  show resid x0 (stage x1) x2 x3 x5 p q = _
  unfold resid Spec.hid
  rw [factor_eq A1 b s x1 x5 h1 h5, factor_eq A1 b s x1 x5 h1 h5, h0, h0, h2, h3, Fin.sum_univ_two]

include h0 h1 h2 h3 h5 in
/-- The rows' reciprocal roots. -/
theorem rsd_eq (p : Fin 128) : rsd x0 x1 x2 x3 x5 (ix2 p 0) = Spec.rms A0 A1 A2 A3 b (s p) := by
  unfold rsd Spec.rms
  refine congrArg (fun t => Ideal.rsqrt (t * _ + _)) (Finset.sum_congr rfl fun q _ => ?_)
  have h := outR_eq A0 A1 A2 A3 b s x0 x1 x2 x3 x5 h0 h1 h2 h3 h5 p q
  exact congrArg₂ (· * ·) h h

include h0 h1 h2 h3 h4 h5 in
/-- The normalised rows. -/
theorem normed_eq (p : Fin 128) (q : Fin 5120) :
    normed (outR x0 x1 x2 x3 x5) (rsd x0 x1 x2 x3 x5) x4 p q = Spec.nrm A0 A1 A2 A3 A4 b (s p) q := by
  unfold normed Spec.nrm
  rw [outR_eq A0 A1 A2 A3 b s x0 x1 x2 x3 x5 h0 h1 h2 h3 h5, rsd_eq A0 A1 A2 A3 b s x0 x1 x2 x3 x5 h0 h1 h2 h3 h5, h4]

include h0 h1 h2 h3 h4 h5 in
/-- A group's greatest magnitude. -/
theorem gmax_eq (g : Fin 160) (p : Fin 128) :
    gmax (outR x0 x1 x2 x3 x5) (rsd x0 x1 x2 x3 x5) x4 g p = Spec.amax A0 A1 A2 A3 A4 b (s p) g := by
  unfold gmax
  simp only [normed_eq A0 A1 A2 A3 A4 b s x0 x1 x2 x3 x4 x5 h0 h1 h2 h3 h4 h5]
  exact max_scaled fun e => Spec.nrm A0 A1 A2 A3 A4 b (s p) ⟨32 * g.val + e.val, by omega⟩

include h0 h1 h2 h3 h4 h5 in
/-- The block's codes. -/
theorem outC_eq (p : Fin 128) (q : Fin 5120) : outC x0 x1 x2 x3 x4 x5 (ix3 0 p q) = Spec.codeAt A0 A1 A2 A3 A4 b (s p) q := by
  show code _ _ x4 x5 p q = _
  unfold code Spec.codeAt
  simp only [h5]
  rw [sum_pick _ (q.val % 1024 / 32) (by omega), normed_eq A0 A1 A2 A3 A4 b s x0 x1 x2 x3 x4 x5 h0 h1 h2 h3 h4 h5,
    gmax_eq A0 A1 A2 A3 A4 b s x0 x1 x2 x3 x4 x5 h0 h1 h2 h3 h4 h5, invK_eq]
  have e : (⟨32 * (q.val / 1024) + q.val % 1024 / 32, by omega⟩ : Fin 160) = ⟨q.val / 32, by omega⟩ :=
    Fin.ext (by show 32 * (q.val / 1024) + q.val % 1024 / 32 = q.val / 32; omega)
  exact congrArg (fun g => min _ (max _ (_ * Spec.inv (Spec.amax A0 A1 A2 A3 A4 b (s p) g)))) e

include h0 h1 h2 h3 h4 h5 in
/-- The block's scales. -/
theorem outS_eq (g : Fin 160) (p : Fin 128) : outS x0 x1 x2 x3 x4 x5 (ix3 0 g p) = Spec.scaleAt A0 A1 A2 A3 A4 b (s p) g := by
  show scaleK (gmax _ _ x4 g p) = _
  unfold Spec.scaleAt
  rw [gmax_eq A0 A1 A2 A3 A4 b s x0 x1 x2 x3 x4 x5 h0 h1 h2 h3 h4 h5, scaleK_eq]

end Equation

end Cert.KernelIdeal.Val
end
-- ==== Proof.KernelValue.lean ====
module
public import proofs.«01_k».proof.Proof.Blocks
public import proofs.«01_k».proof.Proof.KernelRun
public import proofs.«01_k».proof.Proof.Equation
public import Idealize.ShloMosaic.Lib.Claim
@[expose] public section
set_option maxRecDepth 65536
set_option maxHeartbeats 1000000
noncomputable section

/-! The kernel's three result arrays after its run: its blocks tile each of them, and the scales are transposed once at
the end. -/

namespace Cert.KernelIdeal.Val
open Idealize.ShloMosaic Idealize.ShloMosaic.TcCoe Idealize.ShloMosaic.Tactic
open Idealize.SL Idealize.SL.Sem
open Cert Cert.KernelIdeal Cert.KernelIdeal.Gen

variable (m : (ℓ : Loc nD τ sig) → Buf (Elt Ideal) ℓ) (ρ : Dev nD → PrngReg)

/-- The three results, of the arguments the launch finds. -/
def hiddenOf (c : Dev nD) : Spec.Hidden :=
  Spec.hidden (m ((c.tc : Thread nD τ).loc main_arg0)) (m ((c.tc : Thread nD τ).loc main_arg1)) (m ((c.tc : Thread nD τ).loc main_arg2)) (m ((c.tc : Thread nD τ).loc main_arg3))
def codesOf (c : Dev nD) : Spec.Hidden :=
  Spec.codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
def scalesOf (c : Dev nD) : Shape.Idx ⟨3, ![16, 640, 160]⟩ → EReal :=
  Spec.scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

theorem point6 (c : Dev nD) (t : Fin cfg0.N) (p : Fin 128) (q : Fin 5120) :
    outR (iblk m c 0 t) (iblk m c 1 t) (iblk m c 2 t) (iblk m c 3 t) (iblk m c 5 t) (ix3 0 p q) = hiddenOf m c (ix3 (brow t) (srow t p) q) :=
  outR_eq (m ((c.tc : Thread nD τ).loc main_arg0)) (m ((c.tc : Thread nD τ).loc main_arg1)) (m ((c.tc : Thread nD τ).loc main_arg2)) (m ((c.tc : Thread nD τ).loc main_arg3)) (brow t) (srow t) _ _ _ _ _
    (blk0 m c t) (blk1 m c t) (blk2 m c t) (blk3 m c t) (blk5 m c t) p q

theorem point7 (c : Dev nD) (t : Fin cfg0.N) (p : Fin 128) (q : Fin 5120) :
    outC (iblk m c 0 t) (iblk m c 1 t) (iblk m c 2 t) (iblk m c 3 t) (iblk m c 4 t) (iblk m c 5 t) (ix3 0 p q) = codesOf m c (ix3 (brow t) (srow t p) q) :=
  outC_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (brow t) (srow t) _ _ _ _ _ _
    (blk0 m c t) (blk1 m c t) (blk2 m c t) (blk3 m c t) (blk4 m c t) (blk5 m c t) p q

theorem point8 (c : Dev nD) (t : Fin cfg0.N) (g : Fin 160) (p : Fin 128) :
    outS (iblk m c 0 t) (iblk m c 1 t) (iblk m c 2 t) (iblk m c 3 t) (iblk m c 4 t) (iblk m c 5 t) (ix3 0 g p) = scalesOf m c (ix3 (brow t) (srow t p) g) :=
  outS_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (brow t) (srow t) _ _ _ _ _ _
    (blk0 m c t) (blk1 m c t) (blk2 m c t) (blk3 m c t) (blk4 m c t) (blk5 m c t) g p

/-- The scales before the last transposition. -/
def scalesT (c : Dev nD) : S16x160x640.Idx → EReal := fun j => scalesOf m c (ix3 (j 0) (j 2) (j 1))

theorem final6 (c : Dev nD) : (dats m 0 c).arrAt 6 (cfgs 0).N = hiddenOf m c := by
  refine (dats m 0 c).arrAt_eq_of_covers 6 (hiddenOf m c) (by decide +kernel) fun t _ y => ?_
  blk_simp
  rw [after0_6]
  refine (point6 m c t (y 1) (y 2)).trans ?_
  blk_ext [idx t, brow, srow]

theorem final7 (c : Dev nD) : (dats m 0 c).arrAt 7 (cfgs 0).N = codesOf m c := by
  refine (dats m 0 c).arrAt_eq_of_covers 7 (codesOf m c) (by decide +kernel) fun t _ y => ?_
  blk_simp
  rw [after0_7]
  refine (point7 m c t (y 1) (y 2)).trans ?_
  blk_ext [idx t, brow, srow]

theorem final8 (c : Dev nD) : (dats m 0 c).arrAt 8 (cfgs 0).N = scalesT m c := by
  refine (dats m 0 c).arrAt_eq_of_covers 8 (scalesT m c) (by decide +kernel) fun t _ y => ?_
  blk_simp
  rw [after0_8]
  refine (point8 m c t (y 1) (y 2)).trans ?_
  unfold scalesT
  blk_ext [idx t, brow, srow]

/-- The transposition at the end. -/
theorem tail (c : Dev nD) : Pipeline.afterTail₀ cfgs (dats m) 0 (V0 m) [hostOps1] c main_v13 = scalesOf m c := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.devRef .tc main_v12_2) = scalesT m c :=
    (Pipeline.withArrays_arr (cfgs 0).spec (by decide) c (V0 m c) (fun w => (dats m 0 c).arrAt w (cfgs 0).N) 8).trans (final8 m c)
  rw [h]
  funext j
  rw [← ix3_eta j]
  pointwise [scalesT]

/-- The kernel's run: its results are the plain arithmetic of its arguments, which it leaves unchanged. -/
theorem run : θ_run defs (onTc (τ := τ) (main (F := Ideal))) ⟨m, fun _ => 0, ρ⟩ (fun r => ∀ c : Dev nD,
      (r.2.mem ((c.tc : Thread nD τ).loc main_v12_0) = hiddenOf m c
      ∧ r.2.mem ((c.tc : Thread nD τ).loc main_v12_1) = codesOf m c
      ∧ r.2.mem ((c.tc : Thread nD τ).loc main_v13) = scalesOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨⟨((h.1 c).1 6).trans (final6 m c), ((h.1 c).1 7).trans (final7 m c),
      ((h.1 c).2 main_v13 (Pipeline.mem_restRefs_of main_v13 (by decide) (by decide))).trans (tail m c)⟩, h.2 c⟩)
    (θ_run_and (run_main m ρ) (unchanged m ρ))

end Cert.KernelIdeal.Val
end
-- ==== Proof.RefBlock.lean ====
module
public import proofs.«01_k».proof.Proof.Gen.ReferenceIdeal.Frame
public import proofs.«01_k».proof.Proof.Spec
public import Idealize.ShloMosaic.Lib.Pipeline.ValueKit
@[expose] public section
set_option maxRecDepth 65536
set_option maxHeartbeats 1000000
noncomputable section

/-! What the reference's one block computes, at an index: the plain arithmetic of `Spec`. The arrays are large, so each
reduction is read on its own, over an array that is left a variable. -/

namespace Cert.ReferenceIdeal.Val
open Idealize.ShloMosaic Idealize.ShloMosaic.TcCoe Idealize.ShloMosaic.Tactic
open Cert.ReferenceIdeal Cert.ReferenceIdeal.Gen

/-- The dequantised partials, in groups. -/
def deq (P0 : Vec Ideal S2x16x640x5120 .fp8e4m3) (P1 : Vec Ideal S2x16x640x160 .f32) : FVec Ideal S2x16x640x160x32 .f32 :=
  mulf (shapeCast S2x16x640x160x32 (extf (F := Ideal) .f32 (P0 : FVec Ideal S2x16x640x5120 .fp8e4m3) bitsLt_fp8e4m3_f32) shapeCasts_S2x16x640x5120_S2x16x640x160x32)
    (broadcastTo S2x16x640x160x32 (shapeCast S2x16x640x160x1 P1 shapeCasts_S2x16x640x160_S2x16x640x160x1) broadcasts_S2x16x640x160x1_S2x16x640x160x32)

theorem deq_at (P0 : Vec Ideal S2x16x640x5120 .fp8e4m3) (P1 : Vec Ideal S2x16x640x160 .f32) (d : Fin 2) (b : Fin 16) (s : Fin 640) (g : Fin 160) (e : Fin 32) :
    deq P0 P1 (ix5 d b s g e) = P0 (ix4 d b s ⟨g * 32 + e, by omega⟩) * P1 (ix4 d b s g) := by
  pointwise [deq]

theorem sum_parts (v : FVec Ideal S2x16x640x160x32 .f32) (b : Fin 16) (s : Fin 640) (g : Fin 160) (e : Fin 32) (h1 h2) :
    multiReduction .add [0] S16x640x160x32 v 0x00000000#32 reduces_S2x16x640x160x32_S16x640x160x32 h1 h2 (ix4 b s g e) = ∑ d, v (ix5 d b s g e) := by
  pointwise

theorem add_rest (v : FVec Ideal S16x640x160x32 .f32) (P2 : Vec Ideal S5120 .f32)
    (P3 : Vec Ideal S16x640x5120 .bf16) (b : Fin 16) (s : Fin 640) (q : Fin 5120) :
    truncf (F := Ideal) .bf16 (addf (addf (shapeCast S16x640x5120 v shapeCasts_S16x640x160x32_S16x640x5120) (broadcastTo S16x640x5120 (shapeCast S1x1x5120 P2 shapeCasts_S5120_S1x1x5120) broadcasts_S1x1x5120_S16x640x5120)) (extf (F := Ideal) .f32 (P3 : FVec Ideal S16x640x5120 .bf16) bitsLt_bf16_f32)) bitsLt_bf16_f32 (ix3 b s q)
      = v (ix4 b s ⟨q / 32, by omega⟩ ⟨q % 32, by omega⟩) + P2 (ix1 q) + P3 (ix3 b s q) := by
  pointwise

/-- The reference's new residual. -/
theorem pay6_at (P0 : Vec Ideal S2x16x640x5120 .fp8e4m3) (P1 : Vec Ideal S2x16x640x160 .f32) (P2 : Vec Ideal S5120 .f32)
    (P3 : Vec Ideal S16x640x5120 .bf16) (b : Fin 16) (s : Fin 640) (q : Fin 5120) :
    k0_pay6 P0 P1 P2 P3 (ix3 b s q) = Spec.hid P0 P1 P2 P3 b s q := by
  refine (add_rest _ P2 P3 b s q).trans ?_
  refine congrArg (fun z : EReal => z + P2 (ix1 q) + P3 (ix3 b s q)) ((sum_parts (deq P0 P1) b s _ _ _ _).trans (Finset.sum_congr rfl fun d _ => (deq_at P0 P1 d b s _ _).trans ?_))
  congr 3
  apply Fin.ext
  show q.val / 32 * 32 + q.val % 32 = q.val
  omega

/-- The rows' sums of squares of a residual. -/
def squares (v : FVec Ideal S16x640x5120 .f32) : FVec Ideal S16x640 .f32 :=
  multiReduction .add [2] S16x640 (mulf v v) 0x00000000#32 reduces_S16x640x5120_S16x640 (.inl rfl) rfl

theorem squares_at (v : FVec Ideal S16x640x5120 .f32) (b : Fin 16) (s : Fin 640) :
    squares v (ix2 b s) = ∑ q, v (ix3 b s q) * v (ix3 b s q) := by
  pointwise [squares]

/-- The groups' greatest magnitudes. -/
def greatest (v : FVec Ideal S16x640x160x32 .f32) : FVec Ideal S16x640x160 .f32 :=
  multiReduction .maximumf [3] S16x640x160 (absf v) 0xFF800000#32 reduces_S16x640x160x32_S16x640x160 (.inl rfl) rfl

theorem greatest_at (v : FVec Ideal S16x640x160x32 .f32) (b : Fin 16) (s : Fin 640) (g : Fin 160) :
    greatest v (ix3 b s g) = Finset.fold max (Ideal.ofBits .f32 0xFF800000#32)
      (fun e => FloatOps.absf (F := Ideal) (φ := .f32) (v (ix4 b s g e))) Finset.univ := by
  pointwise [greatest]

/-- The normalisation of a residual `v` whose rows' sums of squares are `w`. -/
def norm (v : FVec Ideal S16x640x5120 .f32) (w : FVec Ideal S16x640 .f32) (P4 : Vec Ideal S5120 .f32) : FVec Ideal S16x640x160x32 .f32 :=
  shapeCast S16x640x160x32
    (mulf (mulf v (broadcastTo S16x640x5120 (rsqrt (addf (mulf (shapeCast S16x640x1 w shapeCasts_S16x640_S16x640x1)
      (broadcast S16x640x1 (Scalar.ofBits .f32 0x394CCCCD#32 : Ideal .f32))) (broadcast S16x640x1 (Scalar.ofBits .f32 0x358637BD#32 : Ideal .f32))))
      broadcasts_S16x640x1_S16x640x5120))
      (broadcastTo S16x640x5120 (shapeCast S1x1x5120 P4 shapeCasts_S5120_S1x1x5120) broadcasts_S1x1x5120_S16x640x5120))
    shapeCasts_S16x640x5120_S16x640x160x32

theorem norm_at (v : FVec Ideal S16x640x5120 .f32) (w : FVec Ideal S16x640 .f32) (P4 : Vec Ideal S5120 .f32) (b : Fin 16) (s : Fin 640) (g : Fin 160) (e : Fin 32) :
    norm v w P4 (ix4 b s g e) = v (ix3 b s ⟨g * 32 + e, by omega⟩) * Ideal.rsqrt (w (ix2 b s) * Ideal.ofBits .f32 0x394CCCCD#32
      + Ideal.ofBits .f32 0x358637BD#32) * P4 (ix1 ⟨g * 32 + e, by omega⟩) := by
  pointwise [norm]

theorem pay7_eq (P0 : Vec Ideal S2x16x640x5120 .fp8e4m3) (P1 : Vec Ideal S2x16x640x160 .f32) (P2 : Vec Ideal S5120 .f32)
    (P3 : Vec Ideal S16x640x5120 .bf16) (P4 : Vec Ideal S5120 .f32) :
    k0_pay7 P0 P1 P2 P3 P4 = norm (k0_pay6 P0 P1 P2 P3) (squares (k0_pay6 P0 P1 P2 P3)) P4 := rfl

/-- A residual `v` that agrees with `Spec.hid` on the row normalises to `Spec.nrm`. -/
theorem norm_hid (P0 : Vec Ideal S2x16x640x5120 .fp8e4m3) (P1 : Vec Ideal S2x16x640x160 .f32) (P2 : Vec Ideal S5120 .f32)
    (P3 : Vec Ideal S16x640x5120 .bf16) (P4 : Vec Ideal S5120 .f32) (v : FVec Ideal S16x640x5120 .f32) (b : Fin 16) (s : Fin 640)
    (hv : ∀ q, v (ix3 b s q) = Spec.hid P0 P1 P2 P3 b s q) (g : Fin 160) (e : Fin 32) :
    norm v (squares v) P4 (ix4 b s g e) = Spec.nrm P0 P1 P2 P3 P4 b s ⟨32 * g + e, by omega⟩ := by
  have hi : (⟨g.val * 32 + e.val, by omega⟩ : Fin 5120) = ⟨32 * g.val + e.val, by omega⟩ := Fin.ext (by show g.val * 32 + e.val = 32 * g.val + e.val; omega)
  rw [norm_at, squares_at, hi]
  simp only [hv]
  rfl

/-- The reference's normalised row, in groups. -/
theorem pay7_at (P0 : Vec Ideal S2x16x640x5120 .fp8e4m3) (P1 : Vec Ideal S2x16x640x160 .f32) (P2 : Vec Ideal S5120 .f32)
    (P3 : Vec Ideal S16x640x5120 .bf16) (P4 : Vec Ideal S5120 .f32) (b : Fin 16) (s : Fin 640) (g : Fin 160) (e : Fin 32) :
    k0_pay7 P0 P1 P2 P3 P4 (ix4 b s g e) = Spec.nrm P0 P1 P2 P3 P4 b s ⟨32 * g + e, by omega⟩ :=
  (congrFun (pay7_eq P0 P1 P2 P3 P4) _).trans (norm_hid P0 P1 P2 P3 P4 _ b s (fun q => pay6_at P0 P1 P2 P3 b s q) g e)

theorem pay8_eq (P0 : Vec Ideal S2x16x640x5120 .fp8e4m3) (P1 : Vec Ideal S2x16x640x160 .f32) (P2 : Vec Ideal S5120 .f32)
    (P3 : Vec Ideal S16x640x5120 .bf16) (P4 : Vec Ideal S5120 .f32) :
    k0_pay8 P0 P1 P2 P3 P4 = greatest (k0_pay7 P0 P1 P2 P3 P4) := rfl

/-- The reference's greatest magnitudes of the groups. -/
theorem pay8_at (P0 : Vec Ideal S2x16x640x5120 .fp8e4m3) (P1 : Vec Ideal S2x16x640x160 .f32) (P2 : Vec Ideal S5120 .f32)
    (P3 : Vec Ideal S16x640x5120 .bf16) (P4 : Vec Ideal S5120 .f32) (b : Fin 16) (s : Fin 640) (g : Fin 160) :
    k0_pay8 P0 P1 P2 P3 P4 (ix3 b s g) = Spec.top P0 P1 P2 P3 P4 b s g := by
  rw [pay8_eq, greatest_at]
  simp only [pay7_at]
  rfl

theorem pay9_at (b : Fin 16) (s : Fin 640) (g : Fin 160) : k0_pay9 (F := Ideal) (ix3 b s g) = Ideal.ofBits .f32 0x3F7F6DB8#32 := by
  pointwise [k0_pay9]

theorem pay4_gen (v w : FVec Ideal S16x640x160 .f32) (b : Fin 16) (s : Fin 640) (g : Fin 160) :
    k0_pay4 v w (ix3 b s g) = Spec.scale (v (ix3 b s g) * w (ix3 b s g)) := by
  unfold Spec.scale Spec.tiny Spec.expo
  pointwise [k0_pay4, k0_pay3, k0_pay2, k0_pay1]
  split <;> rfl

theorem pay5_gen (u : FVec Ideal S16x640x160x32 .f32) (v w : FVec Ideal S16x640x160 .f32) (b : Fin 16) (s : Fin 640) (q : Fin 5120) :
    k0_pay5 u v w (ix3 b s q) = min (Ideal.ofBits .f32 0x43E00000#32) (max (Ideal.ofBits .f32 0xC3E00000#32)
      (u (ix4 b s ⟨q / 32, by omega⟩ ⟨q % 32, by omega⟩) * Spec.inv (v (ix3 b s ⟨q / 32, by omega⟩) * w (ix3 b s ⟨q / 32, by omega⟩)))) := by
  unfold Spec.inv Spec.tiny Spec.expo
  pointwise [k0_pay5, k0_pay3, k0_pay2, k0_pay1]
  refine congrArg (fun z : EReal => min _ (max _ (_ * z))) ?_
  split <;> rfl

/-- The reference's scales. -/
theorem pay4_at (P0 : Vec Ideal S2x16x640x5120 .fp8e4m3) (P1 : Vec Ideal S2x16x640x160 .f32) (P2 : Vec Ideal S5120 .f32)
    (P3 : Vec Ideal S16x640x5120 .bf16) (P4 : Vec Ideal S5120 .f32) (b : Fin 16) (s : Fin 640) (g : Fin 160) :
    k0_pay4 (k0_pay8 P0 P1 P2 P3 P4) k0_pay9 (ix3 b s g) = Spec.scaleAt P0 P1 P2 P3 P4 b s g := by
  rw [pay4_gen, pay8_at, pay9_at]
  rfl

/-- The reference's codes. -/
theorem pay5_at (P0 : Vec Ideal S2x16x640x5120 .fp8e4m3) (P1 : Vec Ideal S2x16x640x160 .f32) (P2 : Vec Ideal S5120 .f32)
    (P3 : Vec Ideal S16x640x5120 .bf16) (P4 : Vec Ideal S5120 .f32) (b : Fin 16) (s : Fin 640) (q : Fin 5120) :
    k0_pay5 (k0_pay7 P0 P1 P2 P3 P4) (k0_pay8 P0 P1 P2 P3 P4) k0_pay9 (ix3 b s q) = Spec.codeAt P0 P1 P2 P3 P4 b s q := by
  have hi : (⟨32 * (q.val / 32) + q.val % 32, by omega⟩ : Fin 5120) = q := Fin.ext (by show 32 * (q.val / 32) + q.val % 32 = q.val; omega)
  rw [pay5_gen, pay8_at, pay9_at, pay7_at, hi]
  rfl

end Cert.ReferenceIdeal.Val
end
-- ==== Proof.RefValue.lean ====
module
public import proofs.«01_k».proof.Proof.RefBlock
public import Idealize.ShloMosaic.Lib.Claim
@[expose] public section
set_option maxRecDepth 65536
set_option maxHeartbeats 1000000
noncomputable section

/-! The reference's three result arrays after its run. Its grid is one point whose blocks are the whole arrays. -/

namespace Cert.ReferenceIdeal.Val
open Idealize.ShloMosaic Idealize.ShloMosaic.TcCoe Idealize.ShloMosaic.Tactic
open Idealize.SL Idealize.SL.Sem
open Cert.ReferenceIdeal Cert.ReferenceIdeal.Gen

variable (m : (ℓ : Loc nD τ sig) → Buf (Elt Ideal) ℓ) (ρ : Dev nD → PrngReg)

theorem idx : ∀ t : Fin cfg0.N, win0_0.index t = ![0, 0, 0, 0] ∧ win0_1.index t = ![0, 0, 0, 0] ∧ win0_2.index t = ![0]
    ∧ win0_3.index t = ![0, 0, 0] ∧ win0_4.index t = ![0] ∧ win0_5.index t = ![0, 0, 0] ∧ win0_6.index t = ![0, 0, 0]
    ∧ win0_7.index t = ![0, 0, 0] := (by decide +kernel : ∀ t : Fin grid0.N, _)

theorem iblk0 (c : Dev nD) (t : Fin cfg0.N) : iblk m c 0 t = m ((c : Thread nD τ).loc main_arg0) := by blk_ext! [iblk, V, idx t]
theorem iblk1 (c : Dev nD) (t : Fin cfg0.N) : iblk m c 1 t = m ((c : Thread nD τ).loc main_arg1) := by blk_ext! [iblk, V, idx t]
theorem iblk2 (c : Dev nD) (t : Fin cfg0.N) : iblk m c 2 t = m ((c : Thread nD τ).loc main_arg2) := by blk_ext! [iblk, V, idx t]
theorem iblk3 (c : Dev nD) (t : Fin cfg0.N) : iblk m c 3 t = m ((c : Thread nD τ).loc main_arg3) := by blk_ext! [iblk, V, idx t]
theorem iblk4 (c : Dev nD) (t : Fin cfg0.N) : iblk m c 4 t = m ((c : Thread nD τ).loc main_arg4) := by blk_ext! [iblk, V, idx t]

theorem final5 (c : Dev nD) : (dats m 0 c).arrAt 5 (cfgs 0).N
    = k0_pay6 (m ((c : Thread nD τ).loc main_arg0)) (m ((c : Thread nD τ).loc main_arg1)) (m ((c : Thread nD τ).loc main_arg2)) (m ((c : Thread nD τ).loc main_arg3)) := by
  refine (dats m 0 c).arrAt_eq_of_after_last 5 t0_0 (by decide +kernel) _ fun j => ?_
  blk_simp
  rw [after0_5, iblk0, iblk1, iblk2, iblk3, iblk4]
  frame_out

theorem final6 (c : Dev nD) : (dats m 0 c).arrAt 6 (cfgs 0).N
    = k0_pay5 (k0_pay7 (m ((c : Thread nD τ).loc main_arg0)) (m ((c : Thread nD τ).loc main_arg1)) (m ((c : Thread nD τ).loc main_arg2)) (m ((c : Thread nD τ).loc main_arg3)) (m ((c : Thread nD τ).loc main_arg4)))
      (k0_pay8 (m ((c : Thread nD τ).loc main_arg0)) (m ((c : Thread nD τ).loc main_arg1)) (m ((c : Thread nD τ).loc main_arg2)) (m ((c : Thread nD τ).loc main_arg3)) (m ((c : Thread nD τ).loc main_arg4))) k0_pay9 := by
  refine (dats m 0 c).arrAt_eq_of_after_last 6 t0_0 (by decide +kernel) _ fun j => ?_
  blk_simp
  rw [after0_6, iblk0, iblk1, iblk2, iblk3, iblk4]
  unfold out0_6 k0_pay10 k0_pay11
  frame_out

theorem final7 (c : Dev nD) : (dats m 0 c).arrAt 7 (cfgs 0).N
    = k0_pay4 (k0_pay8 (m ((c : Thread nD τ).loc main_arg0)) (m ((c : Thread nD τ).loc main_arg1)) (m ((c : Thread nD τ).loc main_arg2)) (m ((c : Thread nD τ).loc main_arg3)) (m ((c : Thread nD τ).loc main_arg4))) k0_pay9 := by
  refine (dats m 0 c).arrAt_eq_of_after_last 7 t0_0 (by decide +kernel) _ fun j => ?_
  blk_simp
  rw [after0_7, iblk0, iblk1, iblk2, iblk3, iblk4]
  unfold out0_7 k0_pay10 k0_pay11
  frame_out

/-- The payloads as whole arrays. -/
theorem pay6_all (P0 : Vec Ideal S2x16x640x5120 .fp8e4m3) (P1 : Vec Ideal S2x16x640x160 .f32) (P2 : Vec Ideal S5120 .f32)
    (P3 : Vec Ideal S16x640x5120 .bf16) : k0_pay6 P0 P1 P2 P3 = Spec.hidden P0 P1 P2 P3 := by
  funext j
  exact (congrArg (k0_pay6 P0 P1 P2 P3) (ix3_eta j).symm).trans (pay6_at P0 P1 P2 P3 (j 0) (j 1) (j 2))

theorem pay5_all (P0 : Vec Ideal S2x16x640x5120 .fp8e4m3) (P1 : Vec Ideal S2x16x640x160 .f32) (P2 : Vec Ideal S5120 .f32)
    (P3 : Vec Ideal S16x640x5120 .bf16) (P4 : Vec Ideal S5120 .f32) :
    k0_pay5 (k0_pay7 P0 P1 P2 P3 P4) (k0_pay8 P0 P1 P2 P3 P4) k0_pay9 = Spec.codes P0 P1 P2 P3 P4 := by
  funext j
  exact (congrArg (k0_pay5 (k0_pay7 P0 P1 P2 P3 P4) (k0_pay8 P0 P1 P2 P3 P4) k0_pay9) (ix3_eta j).symm).trans (pay5_at P0 P1 P2 P3 P4 (j 0) (j 1) (j 2))

theorem pay4_all (P0 : Vec Ideal S2x16x640x5120 .fp8e4m3) (P1 : Vec Ideal S2x16x640x160 .f32) (P2 : Vec Ideal S5120 .f32)
    (P3 : Vec Ideal S16x640x5120 .bf16) (P4 : Vec Ideal S5120 .f32) :
    k0_pay4 (k0_pay8 P0 P1 P2 P3 P4) k0_pay9 = Spec.scales P0 P1 P2 P3 P4 := by
  funext j
  exact (congrArg (k0_pay4 (k0_pay8 P0 P1 P2 P3 P4) k0_pay9) (ix3_eta j).symm).trans (pay4_at P0 P1 P2 P3 P4 (j 0) (j 1) (j 2))

/-- The reference's run: its results are the plain arithmetic of its arguments, which it leaves unchanged. -/
theorem run : θ_run defs (onTc (τ := τ) (main (F := Ideal))) ⟨m, fun _ => 0, ρ⟩ (fun r => ∀ c : Dev nD,
      (r.2.mem ((c.tc : Thread nD τ).loc main_v0_0) = Spec.hidden (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1) = Spec.codes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v0_2) = Spec.scales (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨⟨((h.1 c).1 5).trans ((final5 m c).trans (pay6_all _ _ _ _)),
      ((h.1 c).1 6).trans ((final6 m c).trans (pay5_all _ _ _ _ _)),
      ((h.1 c).1 7).trans ((final7 m c).trans (pay4_all _ _ _ _ _))⟩, h.2 c⟩)
    (θ_run_and (run_main m ρ) (unchanged m ρ))

end Cert.ReferenceIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- Both programs end with the specification's three arrays of their common arguments. -/
theorem algebraic : algebraic_KernelIdeal_ReferenceIdeal (hKernelIdeal := Cert.KernelIdeal.Gen.facts) (hReferenceIdeal := Cert.ReferenceIdeal.Gen.facts) := by
  intro m g m' g' _ hargs
  refine ⟨KernelIdeal.Val.hiddenOf m, KernelIdeal.Val.codesOf m, KernelIdeal.Val.scalesOf m,
    (θ_run _ _ _).mono (fun _ h c => ⟨(h c).1.1, (h c).1.2.1, (h c).1.2.2, (h c).2⟩) (KernelIdeal.Val.run m g),
    (θ_run _ _ _).mono (fun _ h c => ?_) (ReferenceIdeal.Val.run m' g')⟩
  obtain ⟨e0, e1, e2, e3, e4⟩ := hargs c
  obtain ⟨⟨r0, r1, r2⟩, hu⟩ := h c
  rw [e0, e1, e2, e3] at r0
  rw [e0, e1, e2, e3, e4] at r1 r2
  exact ⟨r0, r1, r2, hu⟩

theorem claim : Cert.Claim := ⟨Cert.Kernel.Gen.facts, Cert.KernelIdeal.Gen.facts, Cert.ReferenceIdeal.Gen.facts,
  fun m ρ _ => Cert.Kernel.Val.frame m ρ, fun m ρ _ => Cert.KernelIdeal.Val.frame m ρ, fun m ρ _ => Cert.ReferenceIdeal.Gen.frame m ρ,
  trivial, algebraic⟩

end Cert.Proof

end
